-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S10000x128 : Shape := ⟨2, ![10000, 128]⟩
abbrev S10000x32 : Shape := ⟨2, ![10000, 32]⟩
abbrev S_ : Shape := ⟨0, ![]⟩

class Facts : Prop where
  bcast_S_S10000x32 : S_.BroadcastsInDim S10000x32 (![] : Fin 0 → Fin S10000x32.rank)
  reducesTo_S10000x32_S_d0_1 : S10000x32.ReducesTo [0, 1] S_
  h_S_ : 0 < S_.numel

variable [Facts]

def fn {F : FTy → Type} [FloatOps F] (main_arg0 : FVec F S10000x128 .f32) (main_arg1 : IVec S10000x32 32) : IVec S_ 1 :=
  let main_c : IVec S_ 32 := constantI S_ 32 0#32
  let main_v0 : IVec S10000x32 32 := broadcastInDim S10000x32 ![] bcast_S_S10000x32 main_c
  let main_v1 : IVec S10000x32 1 := cmpi .sge main_arg1 main_v0
  let main_c_0 : IVec S_ 32 := constantI S_ 32 10000#32
  let main_v2 : IVec S10000x32 32 := broadcastInDim S10000x32 ![] bcast_S_S10000x32 main_c_0
  let main_v3 : IVec S10000x32 1 := cmpi .slt main_arg1 main_v2
  let main_v4 : IVec S10000x32 1 := andi main_v1 main_v3
  let main_c_1 : IVec S_ 1 := constantI S_ 1 1#1
  let main_v5 : IVec S_ 1 := (fun x v => Host.reduce IntOp.andi x v reducesTo_S10000x32_S_d0_1 h_S_) main_v4 main_c_1
  main_v5
-- ==== Kernel.lean ====
abbrev S10000x128 : Shape := ⟨2, ![10000, 128]⟩
abbrev S10000x32 : Shape := ⟨2, ![10000, 32]⟩
abbrev S_ : Shape := ⟨0, ![]⟩
abbrev S10240x32 : Shape := ⟨2, ![10240, 32]⟩
abbrev S1 : Shape := ⟨1, ![1]⟩
abbrev S327680 : Shape := ⟨1, ![327680]⟩
abbrev S10240x128 : Shape := ⟨2, ![10240, 128]⟩
abbrev S10240 : Shape := ⟨1, ![10240]⟩
abbrev S128x128 : Shape := ⟨2, ![128, 128]⟩
abbrev S320x128 : Shape := ⟨2, ![320, 128]⟩
abbrev S128 : Shape := ⟨1, ![128]⟩
abbrev S1x16 : Shape := ⟨2, ![1, 16]⟩
abbrev S16 : Shape := ⟨1, ![16]⟩

abbrev nBuf : Table → Nat
  | .hbm => 10
  | .local .scVector .vmem => 6
  | _ => 0

abbrev bufTy : (tb : Table) → Fin (nBuf tb) → BufTy
  | .hbm, ⟨0, _⟩ => ⟨S10000x128, .f32⟩
  | .hbm, ⟨1, _⟩ => ⟨S10000x32, .i32⟩
  | .hbm, ⟨2, _⟩ => ⟨S_, .i32⟩
  | .hbm, ⟨3, _⟩ => ⟨S10240x32, .i32⟩
  | .hbm, ⟨4, _⟩ => ⟨S_, .i32⟩
  | .hbm, ⟨5, _⟩ => ⟨S1, .i32⟩
  | .hbm, ⟨6, _⟩ => ⟨S10240x32, .i32⟩
  | .hbm, ⟨7, _⟩ => ⟨S327680, .i32⟩
  | .hbm, ⟨8, _⟩ => ⟨S10240x128, .f32⟩
  | .hbm, ⟨9, _⟩ => ⟨S10000x128, .f32⟩
  | .local .scVector .vmem, ⟨0, _⟩ => ⟨S10240, .i32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S320x128, .f32⟩
  | _, _ => ⟨S10000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_arg0_scv : Ref sig .scVector := ⟨.hbm, 0, rfl⟩
abbrev main_v3_scv : Ref sig .scVector := ⟨.hbm, 7, rfl⟩
abbrev main_v4_scv : Ref sig .scVector := ⟨.hbm, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c32_i32 : BitVec 32 := 32#32
  let v3 : BitVec 32 := Scalar.muli v2 c32_i32
  ![v3.toNat]
@[reducible] def k0_t1_loop : Scf.Loop 32 :=
  let c0_i32_8 : BitVec 32 := 0#32
  let c20_i32 : BitVec 32 := 20#32
  let v12 : BitVec 32 := Scalar.addi c0_i32_8 c20_i32
  let c1_i32 : BitVec 32 := 1#32
  ⟨c0_i32_8, v12, c1_i32⟩
def k0_off2 (k0_t1 : Fin k0_t1_loop.trips) (c0_i32_11 : BitVec 32) : Fin 1 → Nat :=
  let c0_i32_10 : BitVec 32 := 0#32
  let c0_i32_8 : BitVec 32 := 0#32
  let c1_i32 : BitVec 32 := 1#32
  let arg15 : BitVec 32 := Scf.iv c0_i32_8 c1_i32 k0_t1
  let c4_i32 : BitVec 32 := 4#32
  let v13 : BitVec 32 := Scalar.muli arg15 c4_i32
  let v14 : BitVec 32 := Scalar.addi c0_i32_10 v13
  let v15 : BitVec 32 := Scalar.addi v14 c0_i32_11
  let c128_i32_12 : BitVec 32 := 128#32
  let v16 : BitVec 32 := Scalar.muli v15 c128_i32_12
  ![v16.toNat]
def k0_off3 (k0_t1 : Fin k0_t1_loop.trips) (c0_i32_11 : BitVec 32) (c0_i32_52 : BitVec 32) : Fin 2 → Nat :=
  let c0_i32_10 : BitVec 32 := 0#32
  let c0_i32_8 : BitVec 32 := 0#32
  let c1_i32 : BitVec 32 := 1#32
  let arg15 : BitVec 32 := Scf.iv c0_i32_8 c1_i32 k0_t1
  let c4_i32 : BitVec 32 := 4#32
  let v13 : BitVec 32 := Scalar.muli arg15 c4_i32
  let v14 : BitVec 32 := Scalar.addi c0_i32_10 v13
  let v15 : BitVec 32 := Scalar.addi v14 c0_i32_11
  let c4_i32_51 : BitVec 32 := 4#32
  let v146 : BitVec 32 := Scalar.muli v15 c4_i32_51
  let v147 : BitVec 32 := Scalar.addi v146 c0_i32_52
  let v148 : Index := Scalar.indexCast v147
  let c0_53 : Index := 0#32
  ![v148.toNat, 0]
def k0_off4 (k0_t1 : Fin k0_t1_loop.trips) (c0_i32_11 : BitVec 32) (c0_i32_118 : BitVec 32) : Fin 2 → Nat :=
  let c0_i32_10 : BitVec 32 := 0#32
  let c0_i32_8 : BitVec 32 := 0#32
  let c1_i32 : BitVec 32 := 1#32
  let arg15 : BitVec 32 := Scf.iv c0_i32_8 c1_i32 k0_t1
  let c4_i32 : BitVec 32 := 4#32
  let v13 : BitVec 32 := Scalar.muli arg15 c4_i32
  let v14 : BitVec 32 := Scalar.addi c0_i32_10 v13
  let v15 : BitVec 32 := Scalar.addi v14 c0_i32_11
  let c4_i32_117 : BitVec 32 := 4#32
  let v279 : BitVec 32 := Scalar.muli v15 c4_i32_117
  let v280 : BitVec 32 := Scalar.addi v279 c0_i32_118
  let v281 : Index := Scalar.indexCast v280
  let c16_119 : Index := 16#32
  ![v281.toNat, 16]
def k0_off5 (k0_t1 : Fin k0_t1_loop.trips) (c0_i32_11 : BitVec 32) (c0_i32_184 : BitVec 32) : Fin 2 → Nat :=
  let c0_i32_10 : BitVec 32 := 0#32
  let c0_i32_8 : BitVec 32 := 0#32
  let c1_i32 : BitVec 32 := 1#32
  let arg15 : BitVec 32 := Scf.iv c0_i32_8 c1_i32 k0_t1
  let c4_i32 : BitVec 32 := 4#32
  let v13 : BitVec 32 := Scalar.muli arg15 c4_i32
  let v14 : BitVec 32 := Scalar.addi c0_i32_10 v13
  let v15 : BitVec 32 := Scalar.addi v14 c0_i32_11
  let c4_i32_183 : BitVec 32 := 4#32
  let v412 : BitVec 32 := Scalar.muli v15 c4_i32_183
  let v413 : BitVec 32 := Scalar.addi v412 c0_i32_184
  let v414 : Index := Scalar.indexCast v413
  let c32_185 : Index := 32#32
  ![v414.toNat, 32]
def k0_off6 (k0_t1 : Fin k0_t1_loop.trips) (c0_i32_11 : BitVec 32) (c0_i32_250 : BitVec 32) : Fin 2 → Nat :=
  let c0_i32_10 : BitVec 32 := 0#32
  let c0_i32_8 : BitVec 32 := 0#32
  let c1_i32 : BitVec 32 := 1#32
  let arg15 : BitVec 32 := Scf.iv c0_i32_8 c1_i32 k0_t1
  let c4_i32 : BitVec 32 := 4#32
  let v13 : BitVec 32 := Scalar.muli arg15 c4_i32
  let v14 : BitVec 32 := Scalar.addi c0_i32_10 v13
  let v15 : BitVec 32 := Scalar.addi v14 c0_i32_11
  let c4_i32_249 : BitVec 32 := 4#32
  let v545 : BitVec 32 := Scalar.muli v15 c4_i32_249
  let v546 : BitVec 32 := Scalar.addi v545 c0_i32_250
  let v547 : Index := Scalar.indexCast v546
  let c48_251 : Index := 48#32
  ![v547.toNat, 48]
def k0_off7 (k0_t1 : Fin k0_t1_loop.trips) (c0_i32_11 : BitVec 32) (c0_i32_316 : BitVec 32) : Fin 2 → Nat :=
  let c0_i32_10 : BitVec 32 := 0#32
  let c0_i32_8 : BitVec 32 := 0#32
  let c1_i32 : BitVec 32 := 1#32
  let arg15 : BitVec 32 := Scf.iv c0_i32_8 c1_i32 k0_t1
  let c4_i32 : BitVec 32 := 4#32
  let v13 : BitVec 32 := Scalar.muli arg15 c4_i32
  let v14 : BitVec 32 := Scalar.addi c0_i32_10 v13
  let v15 : BitVec 32 := Scalar.addi v14 c0_i32_11
  let c4_i32_315 : BitVec 32 := 4#32
  let v678 : BitVec 32 := Scalar.muli v15 c4_i32_315
  let v679 : BitVec 32 := Scalar.addi v678 c0_i32_316
  let v680 : Index := Scalar.indexCast v679
  let c64_317 : Index := 64#32
  ![v680.toNat, 64]
def k0_off8 (k0_t1 : Fin k0_t1_loop.trips) (c0_i32_11 : BitVec 32) (c0_i32_382 : BitVec 32) : Fin 2 → Nat :=
  let c0_i32_10 : BitVec 32 := 0#32
  let c0_i32_8 : BitVec 32 := 0#32
  let c1_i32 : BitVec 32 := 1#32
  let arg15 : BitVec 32 := Scf.iv c0_i32_8 c1_i32 k0_t1
  let c4_i32 : BitVec 32 := 4#32
  let v13 : BitVec 32 := Scalar.muli arg15 c4_i32
  let v14 : BitVec 32 := Scalar.addi c0_i32_10 v13
  let v15 : BitVec 32 := Scalar.addi v14 c0_i32_11
  let c4_i32_381 : BitVec 32 := 4#32
  let v811 : BitVec 32 := Scalar.muli v15 c4_i32_381
  let v812 : BitVec 32 := Scalar.addi v811 c0_i32_382
  let v813 : Index := Scalar.indexCast v812
  let c80_383 : Index := 80#32
  ![v813.toNat, 80]
def k0_off9 (k0_t1 : Fin k0_t1_loop.trips) (c0_i32_11 : BitVec 32) (c0_i32_448 : BitVec 32) : Fin 2 → Nat :=
  let c0_i32_10 : BitVec 32 := 0#32
  let c0_i32_8 : BitVec 32 := 0#32
  let c1_i32 : BitVec 32 := 1#32
  let arg15 : BitVec 32 := Scf.iv c0_i32_8 c1_i32 k0_t1
  let c4_i32 : BitVec 32 := 4#32
  let v13 : BitVec 32 := Scalar.muli arg15 c4_i32
  let v14 : BitVec 32 := Scalar.addi c0_i32_10 v13
  let v15 : BitVec 32 := Scalar.addi v14 c0_i32_11
  let c4_i32_447 : BitVec 32 := 4#32
  let v944 : BitVec 32 := Scalar.muli v15 c4_i32_447
  let v945 : BitVec 32 := Scalar.addi v944 c0_i32_448
  let v946 : Index := Scalar.indexCast v945
  let c96_449 : Index := 96#32
  ![v946.toNat, 96]
def k0_off10 (k0_t1 : Fin k0_t1_loop.trips) (c0_i32_11 : BitVec 32) (c0_i32_514 : BitVec 32) : Fin 2 → Nat :=
  let c0_i32_10 : BitVec 32 := 0#32
  let c0_i32_8 : BitVec 32 := 0#32
  let c1_i32 : BitVec 32 := 1#32
  let arg15 : BitVec 32 := Scf.iv c0_i32_8 c1_i32 k0_t1
  let c4_i32 : BitVec 32 := 4#32
  let v13 : BitVec 32 := Scalar.muli arg15 c4_i32
  let v14 : BitVec 32 := Scalar.addi c0_i32_10 v13
  let v15 : BitVec 32 := Scalar.addi v14 c0_i32_11
  let c4_i32_513 : BitVec 32 := 4#32
  let v1077 : BitVec 32 := Scalar.muli v15 c4_i32_513
  let v1078 : BitVec 32 := Scalar.addi v1077 c0_i32_514
  let v1079 : Index := Scalar.indexCast v1078
  let c112_515 : Index := 112#32
  ![v1079.toNat, 112]
def k0_cond1 (k0_t1 : Fin k0_t1_loop.trips) : BitVec 1 :=
  let c0_i32_10 : BitVec 32 := 0#32
  let c0_i32_8 : BitVec 32 := 0#32
  let c1_i32 : BitVec 32 := 1#32
  let arg15 : BitVec 32 := Scf.iv c0_i32_8 c1_i32 k0_t1
  let c4_i32 : BitVec 32 := 4#32
  let v13 : BitVec 32 := Scalar.muli arg15 c4_i32
  let v14 : BitVec 32 := Scalar.addi c0_i32_10 v13
  let c0_i32_11 : BitVec 32 := 0#32
  let v15 : BitVec 32 := Scalar.addi v14 c0_i32_11
  let c4_i32_2029 : BitVec 32 := 4#32
  let v4275 : BitVec 32 := Scalar.addi v15 c4_i32_2029
  let c80_i32_2030 : BitVec 32 := 80#32
  let v4276 : BitVec 1 := Scalar.cmpi .slt v4275 c80_i32_2030
  let v4277 : BitVec 32 := Scalar.extui v4276
  let c0_i32_2031 : BitVec 32 := 0#32
  let v4278 : BitVec 1 := Scalar.cmpi .ne v4277 c0_i32_2031
  v4278

def k0_off11 (k0_t1 : Fin k0_t1_loop.trips) : Fin 1 → Nat :=
  let c0_i32_10 : BitVec 32 := 0#32
  let c0_i32_8 : BitVec 32 := 0#32
  let c1_i32 : BitVec 32 := 1#32
  let arg15 : BitVec 32 := Scf.iv c0_i32_8 c1_i32 k0_t1
  let c4_i32 : BitVec 32 := 4#32
  let v13 : BitVec 32 := Scalar.muli arg15 c4_i32
  let v14 : BitVec 32 := Scalar.addi c0_i32_10 v13
  let c0_i32_11 : BitVec 32 := 0#32
  let v15 : BitVec 32 := Scalar.addi v14 c0_i32_11
  let c4_i32_8485 : BitVec 32 := 4#32
  let v17071 : BitVec 32 := Scalar.addi v15 c4_i32_8485
  let c128_i32_8486 : BitVec 32 := 128#32
  let v17072 : BitVec 32 := Scalar.muli v17071 c128_i32_8486
  ![v17072.toNat]
def k0_cond2 (k0_t1 : Fin k0_t1_loop.trips) : BitVec 1 :=
  let c0_i32_10 : BitVec 32 := 0#32
  let c0_i32_8 : BitVec 32 := 0#32
  let c1_i32 : BitVec 32 := 1#32
  let arg15 : BitVec 32 := Scf.iv c0_i32_8 c1_i32 k0_t1
  let c4_i32 : BitVec 32 := 4#32
  let v13 : BitVec 32 := Scalar.muli arg15 c4_i32
  let v14 : BitVec 32 := Scalar.addi c0_i32_10 v13
  let c1_i32_2032 : BitVec 32 := 1#32
  let v4279 : BitVec 32 := Scalar.addi v14 c1_i32_2032
  let c4_i32_4180 : BitVec 32 := 4#32
  let v8539 : BitVec 32 := Scalar.addi v4279 c4_i32_4180
  let c80_i32_4181 : BitVec 32 := 80#32
  let v8540 : BitVec 1 := Scalar.cmpi .slt v8539 c80_i32_4181
  let v8541 : BitVec 32 := Scalar.extui v8540
  let c0_i32_4182 : BitVec 32 := 0#32
  let v8542 : BitVec 1 := Scalar.cmpi .ne v8541 c0_i32_4182
  v8542

def k0_off12 (k0_t1 : Fin k0_t1_loop.trips) : Fin 1 → Nat :=
  let c0_i32_10 : BitVec 32 := 0#32
  let c0_i32_8 : BitVec 32 := 0#32
  let c1_i32 : BitVec 32 := 1#32
  let arg15 : BitVec 32 := Scf.iv c0_i32_8 c1_i32 k0_t1
  let c4_i32 : BitVec 32 := 4#32
  let v13 : BitVec 32 := Scalar.muli arg15 c4_i32
  let v14 : BitVec 32 := Scalar.addi c0_i32_10 v13
  let c1_i32_2032 : BitVec 32 := 1#32
  let v4279 : BitVec 32 := Scalar.addi v14 c1_i32_2032
  let c4_i32_8485 : BitVec 32 := 4#32
  let v17071 : BitVec 32 := Scalar.addi v4279 c4_i32_8485
  let c128_i32_8486 : BitVec 32 := 128#32
  let v17072 : BitVec 32 := Scalar.muli v17071 c128_i32_8486
  ![v17072.toNat]
def k0_cond3 (k0_t1 : Fin k0_t1_loop.trips) : BitVec 1 :=
  let c0_i32_10 : BitVec 32 := 0#32
  let c0_i32_8 : BitVec 32 := 0#32
  let c1_i32 : BitVec 32 := 1#32
  let arg15 : BitVec 32 := Scf.iv c0_i32_8 c1_i32 k0_t1
  let c4_i32 : BitVec 32 := 4#32
  let v13 : BitVec 32 := Scalar.muli arg15 c4_i32
  let v14 : BitVec 32 := Scalar.addi c0_i32_10 v13
  let c2_i32_4183 : BitVec 32 := 2#32
  let v8543 : BitVec 32 := Scalar.addi v14 c2_i32_4183
  let c4_i32_6331 : BitVec 32 := 4#32
  let v12803 : BitVec 32 := Scalar.addi v8543 c4_i32_6331
  let c80_i32_6332 : BitVec 32 := 80#32
  let v12804 : BitVec 1 := Scalar.cmpi .slt v12803 c80_i32_6332
  let v12805 : BitVec 32 := Scalar.extui v12804
  let c0_i32_6333 : BitVec 32 := 0#32
  let v12806 : BitVec 1 := Scalar.cmpi .ne v12805 c0_i32_6333
  v12806

def k0_off13 (k0_t1 : Fin k0_t1_loop.trips) : Fin 1 → Nat :=
  let c0_i32_10 : BitVec 32 := 0#32
  let c0_i32_8 : BitVec 32 := 0#32
  let c1_i32 : BitVec 32 := 1#32
  let arg15 : BitVec 32 := Scf.iv c0_i32_8 c1_i32 k0_t1
  let c4_i32 : BitVec 32 := 4#32
  let v13 : BitVec 32 := Scalar.muli arg15 c4_i32
  let v14 : BitVec 32 := Scalar.addi c0_i32_10 v13
  let c2_i32_4183 : BitVec 32 := 2#32
  let v8543 : BitVec 32 := Scalar.addi v14 c2_i32_4183
  let c4_i32_8485 : BitVec 32 := 4#32
  let v17071 : BitVec 32 := Scalar.addi v8543 c4_i32_8485
  let c128_i32_8486 : BitVec 32 := 128#32
  let v17072 : BitVec 32 := Scalar.muli v17071 c128_i32_8486
  ![v17072.toNat]
def k0_cond4 (k0_t1 : Fin k0_t1_loop.trips) : BitVec 1 :=
  let c0_i32_10 : BitVec 32 := 0#32
  let c0_i32_8 : BitVec 32 := 0#32
  let c1_i32 : BitVec 32 := 1#32
  let arg15 : BitVec 32 := Scf.iv c0_i32_8 c1_i32 k0_t1
  let c4_i32 : BitVec 32 := 4#32
  let v13 : BitVec 32 := Scalar.muli arg15 c4_i32
  let v14 : BitVec 32 := Scalar.addi c0_i32_10 v13
  let c3_i32_6334 : BitVec 32 := 3#32
  let v12807 : BitVec 32 := Scalar.addi v14 c3_i32_6334
  let c4_i32_8482 : BitVec 32 := 4#32
  let v17067 : BitVec 32 := Scalar.addi v12807 c4_i32_8482
  let c80_i32_8483 : BitVec 32 := 80#32
  let v17068 : BitVec 1 := Scalar.cmpi .slt v17067 c80_i32_8483
  let v17069 : BitVec 32 := Scalar.extui v17068
  let c0_i32_8484 : BitVec 32 := 0#32
  let v17070 : BitVec 1 := Scalar.cmpi .ne v17069 c0_i32_8484
  v17070

def k0_off14 (k0_t1 : Fin k0_t1_loop.trips) : Fin 1 → Nat :=
  let c0_i32_10 : BitVec 32 := 0#32
  let c0_i32_8 : BitVec 32 := 0#32
  let c1_i32 : BitVec 32 := 1#32
  let arg15 : BitVec 32 := Scf.iv c0_i32_8 c1_i32 k0_t1
  let c4_i32 : BitVec 32 := 4#32
  let v13 : BitVec 32 := Scalar.muli arg15 c4_i32
  let v14 : BitVec 32 := Scalar.addi c0_i32_10 v13
  let c3_i32_6334 : BitVec 32 := 3#32
  let v12807 : BitVec 32 := Scalar.addi v14 c3_i32_6334
  let c4_i32_8485 : BitVec 32 := 4#32
  let v17071 : BitVec 32 := Scalar.addi v12807 c4_i32_8485
  let c128_i32_8486 : BitVec 32 := 128#32
  let v17072 : BitVec 32 := Scalar.muli v17071 c128_i32_8486
  ![v17072.toNat]
def k0_off15 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_10_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S10000x128 : Shape := ⟨2, ![10000, 128]⟩
abbrev S10000x32 : Shape := ⟨2, ![10000, 32]⟩
abbrev S1x128 : Shape := ⟨2, ![1, 128]⟩
abbrev S_ : Shape := ⟨0, ![]⟩
abbrev S10001x128 : Shape := ⟨2, ![10001, 128]⟩
abbrev S10000x32x1 : Shape := ⟨3, ![10000, 32, 1]⟩
abbrev S1 : Shape := ⟨1, ![1]⟩
abbrev S1x1x1 : Shape := ⟨3, ![1, 1, 1]⟩
abbrev S10000x32x128 : Shape := ⟨3, ![10000, 32, 128]⟩

abbrev nBuf : Space → Nat
  | .hbm => 31
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x32, .i32⟩
  | .hbm, ⟨2, _⟩ => ⟨S1x128, .f32⟩
  | .hbm, ⟨3, _⟩ => ⟨S_, .f32⟩
  | .hbm, ⟨4, _⟩ => ⟨S1x128, .f32⟩
  | .hbm, ⟨5, _⟩ => ⟨S10001x128, .f32⟩
  | .hbm, ⟨6, _⟩ => ⟨S_, .i32⟩
  | .hbm, ⟨7, _⟩ => ⟨S10000x32, .i32⟩
  | .hbm, ⟨8, _⟩ => ⟨S10000x32, .i1⟩
  | .hbm, ⟨9, _⟩ => ⟨S_, .i32⟩
  | .hbm, ⟨10, _⟩ => ⟨S10000x32, .i32⟩
  | .hbm, ⟨11, _⟩ => ⟨S10000x32, .i32⟩
  | .hbm, ⟨12, _⟩ => ⟨S10000x32, .i32⟩
  | .hbm, ⟨13, _⟩ => ⟨S10000x32x1, .i32⟩
  | .hbm, ⟨14, _⟩ => ⟨S1, .i32⟩
  | .hbm, ⟨15, _⟩ => ⟨S_, .i32⟩
  | .hbm, ⟨16, _⟩ => ⟨S10000x32x1, .i32⟩
  | .hbm, ⟨17, _⟩ => ⟨S10000x32x1, .i1⟩
  | .hbm, ⟨18, _⟩ => ⟨S1x1x1, .i32⟩
  | .hbm, ⟨19, _⟩ => ⟨S10000x32x1, .i32⟩
  | .hbm, ⟨20, _⟩ => ⟨S10000x32x1, .i1⟩
  | .hbm, ⟨21, _⟩ => ⟨S10000x32x1, .i1⟩
  | .hbm, ⟨22, _⟩ => ⟨S_, .i1⟩
  | .hbm, ⟨23, _⟩ => ⟨S10000x32, .i1⟩
  | .hbm, ⟨24, _⟩ => ⟨S10000x32x128, .f32⟩
  | .hbm, ⟨25, _⟩ => ⟨S10000x32x128, .i1⟩
  | .hbm, ⟨26, _⟩ => ⟨S_, .f32⟩
  | .hbm, ⟨27, _⟩ => ⟨S10000x32x128, .f32⟩
  | .hbm, ⟨28, _⟩ => ⟨S10000x32x128, .f32⟩
  | .hbm, ⟨29, _⟩ => ⟨S_, .f32⟩
  | .hbm, ⟨30, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v3 : Ref sig .tc := ⟨.hbm, 28, rfl⟩
abbrev main_cst_0 : Ref sig .tc := ⟨.hbm, 29, rfl⟩
abbrev main_v4 : Ref sig .tc := ⟨.hbm, 30, rfl⟩

abbrev nD : Nat := 1
abbrev τ : Topo := Topo.v7x

variable {F : FTy → Type} [FloatOps F]
-- ==== Proof.Base.lean ====
/-
  The set-up shared by the kernel's proof: the program as the launch sees it, the state a tile is in between two
  statements of its loop body, and one rule per kind of statement. The loop body of this kernel is long — four blocks of
  four queries, each query's thirty-two rows maximised lane group by lane group — but it is made of five kinds of
  statement only: a load of one gathered row's lanes, a load of the output block, a store into the output block, the wait for a block's
  gather and the issue of a later one. `Runs` says what one of them does to the tile's state; each rule below is proved
  once, for every slot of the ring, every row and every store.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.ValueIdx
public import Idealize.ShloMosaic.Lib.StableHlo.Run
public import Idealize.ShloMosaic.Lib.Pipeline.Kit
public import Idealize.ShloMosaic.Lib.Tactic
public import proofs.«01_k».proof.Proof.Gen.KernelIdeal

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.ShareLeaves (leaf pointsTo_leaves)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The memrefs of a tile -/

abbrev tabV : Memref sig .scVector .hbm S10000x128 .f32 := Memref.whole main_arg0_scv
abbrev idxV : Memref sig .scVector .hbm S327680 .i32 := Memref.whole main_v3_scv
abbrev resV : Memref sig .scVector .hbm S10240x128 .f32 := Memref.whole main_v4_scv
abbrev lstV : Memref sig .scVector .vmem S10240 .i32 := Memref.whole cc0_scratch0
abbrev outV : Memref sig .scVector .vmem S320x128 .f32 := Memref.whole cc0_scratch5
/-- The four row buffers of the ring. -/
abbrev rowRef : Fin 4 → Ref sig .scVector
  | 0 => cc0_scratch1
  | 1 => cc0_scratch2
  | 2 => cc0_scratch3
  | 3 => cc0_scratch4
abbrev rowV : Fin 4 → Memref sig .scVector .vmem S128x128 .f32
  | 0 => Memref.whole cc0_scratch1
  | 1 => Memref.whole cc0_scratch2
  | 2 => Memref.whole cc0_scratch3
  | 3 => Memref.whole cc0_scratch4
/-- Their semaphores. -/
abbrev rowSem : Fin 4 → DmaSem sig
  | 0 => cc0_scratch6.sem
  | 1 => cc0_scratch7.sem
  | 2 => cc0_scratch8.sem
  | 3 => cc0_scratch9.sem
/-- The table as the gathers address it: all of it. -/
abbrev tabAll : Memref sig .scVector .hbm S10000x128 .f32 :=
  tabV.slice (Rect.unit (s := S10000x128) ![0, 0] S10000x128.size inb_S10000x128_S10000x128_0_0) (fun _ => rfl)
/-- A hundred and twenty-eight entries of the tile's list. -/
abbrev lstAt (off : Fin 1 → ℕ) (h : ∀ a, off a + S128.size a ≤ S10240.size a) : Memref sig .scVector .vmem S128 .i32 :=
  lstV.slice (Rect.unit (s := S10240) off S128.size h) (fun _ => rfl)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-! ## Values -/

/-- Position `(r, c)` of an `n × m` array, coordinates taken modulo the extents. -/
abbrev at2 (n m : ℕ) [NeZero n] [NeZero m] (r c : ℕ) : (⟨2, ![n, m]⟩ : Shape).Idx := ix2 (Fin.ofNat n r) (Fin.ofNat m c)

/-- What a gather of block `blk` lands: row `x 0` of it is the table's row the list names at `128 * blk + x 0`. -/
def gath (tab : S10000x128.Idx → Elt F .f32) (lst : S10240.Idx → Elt F .i32) (blk : ℕ) : S128x128.Idx → Elt F .f32 :=
  fun x => tab (at2 10000 128 (lst (ix1 (Fin.ofNat 10240 (128 * blk + (x 0).val)))).toNat (x 1).val)

/-- Sixteen lanes of row `r` of a gathered block, from lane `c`. -/
def lanes (g : S128x128.Idx → Elt F .f32) (r c : ℕ) : Vec F S1x16 .f32 :=
  fun x => g (at2 128 128 (r + (x 0).val) (c + (x 1).val))

variable [FloatOps F]

/-- The running maximum over rows `r`, …, `r + k` of a gathered block, at sixteen lanes from `c`. -/
def poolTo (g : S128x128.Idx → Elt F .f32) (r c : ℕ) : ℕ → FVec F S16 .f32
  | 0 => shapeCast S16 (lanes g r c) shapeCasts_S1x16_S16
  | k + 1 => maximumf (poolTo g r c k) (shapeCast S16 (lanes g (r + (k + 1)) c) shapeCasts_S1x16_S16)

/-- The `n`-th vector a trip stores: query `n / 8 % 4` of block `n / 32`, lane group `n % 8`. -/
def storeVal (g : ℕ → S128x128.Idx → Elt F .f32) (n : ℕ) : FVec F S1x16 .f32 :=
  shapeCast S1x16 (poolTo (g (n / 32)) (32 * (n / 8 % 4)) (16 * (n % 8)) 31) shapeCasts_S16_S1x16

/-- Where it stores it, in the program's spelling. -/
def storeOff (t : Fin k0_t1_loop.trips) (n : ℕ) : Fin 2 → ℕ :=
  match n % 8 with
  | 0 => k0_off3 t (BitVec.ofNat 32 (n / 32)) (BitVec.ofNat 32 (n / 8 % 4))
  | 1 => k0_off4 t (BitVec.ofNat 32 (n / 32)) (BitVec.ofNat 32 (n / 8 % 4))
  | 2 => k0_off5 t (BitVec.ofNat 32 (n / 32)) (BitVec.ofNat 32 (n / 8 % 4))
  | 3 => k0_off6 t (BitVec.ofNat 32 (n / 32)) (BitVec.ofNat 32 (n / 8 % 4))
  | 4 => k0_off7 t (BitVec.ofNat 32 (n / 32)) (BitVec.ofNat 32 (n / 8 % 4))
  | 5 => k0_off8 t (BitVec.ofNat 32 (n / 32)) (BitVec.ofNat 32 (n / 8 % 4))
  | 6 => k0_off9 t (BitVec.ofNat 32 (n / 32)) (BitVec.ofNat 32 (n / 8 % 4))
  | _ => k0_off10 t (BitVec.ofNat 32 (n / 32)) (BitVec.ofNat 32 (n / 8 % 4))

omit [FloatOps F] in
/-- The same in closed form. -/
theorem storeOff_eq (t : Fin k0_t1_loop.trips) (n : ℕ) (hn : n < 128) : storeOff t n = ![16 * t.val + n / 8, 16 * (n % 8)] := by
  have h1 : n / 32 < 4 := by omega
  have h2 : n / 8 % 4 < 4 := by omega
  have h3 : 16 * t.val + 4 * (n / 32) + n / 8 % 4 = 16 * t.val + n / 8 := by omega
  have h8 : n % 8 < 8 := by omega
  unfold storeOff
  generalize n % 8 = c at h8
  match c, h8 with
  | 0, _ => exact (k0_off3_eq t ⟨n / 32, h1⟩ ⟨n / 8 % 4, h2⟩).trans (by simp only [h3])
  | 1, _ => exact (k0_off4_eq t ⟨n / 32, h1⟩ ⟨n / 8 % 4, h2⟩).trans (by simp only [h3])
  | 2, _ => exact (k0_off5_eq t ⟨n / 32, h1⟩ ⟨n / 8 % 4, h2⟩).trans (by simp only [h3])
  | 3, _ => exact (k0_off6_eq t ⟨n / 32, h1⟩ ⟨n / 8 % 4, h2⟩).trans (by simp only [h3])
  | 4, _ => exact (k0_off7_eq t ⟨n / 32, h1⟩ ⟨n / 8 % 4, h2⟩).trans (by simp only [h3])
  | 5, _ => exact (k0_off8_eq t ⟨n / 32, h1⟩ ⟨n / 8 % 4, h2⟩).trans (by simp only [h3])
  | 6, _ => exact (k0_off9_eq t ⟨n / 32, h1⟩ ⟨n / 8 % 4, h2⟩).trans (by simp only [h3])
  | 7, _ => exact (k0_off10_eq t ⟨n / 32, h1⟩ ⟨n / 8 % 4, h2⟩).trans (by simp only [h3])

/-- The output block after `n` stores of trip `t`, from `f0`: each writes sixteen lanes of one row. -/
def outAfter (t : Fin k0_t1_loop.trips) (g : ℕ → S128x128.Idx → Elt F .f32) (f0 : S320x128.Idx → Elt F .f32) :
    ℕ → S320x128.Idx → Elt F .f32
  | 0 => f0
  | n + 1 => fun x =>
    if (x 0).val = 16 * t.val + n / 8 ∧ (x 1).val / 16 = n % 8 then storeVal g n (at2 1 16 0 ((x 1).val % 16))
    else outAfter t g f0 n x

/-! ## A tile's state inside a trip -/

/-- The parts of a tile's state that stay the same through its loop. -/
structure Env (F : FTy → Type) where
  d : Dev nD
  L : grid0.Coords
  tab : S10000x128.Idx → Elt F .f32
  lst : S10240.Idx → Elt F .i32
  q : PosShare TreeShare
  O : CellTallies nD τ sig (HIx 1)
  W : Waits sig (HIx 1)
  hO : ∀ g, O g none = 0
  hlst : ∀ j, (lst j).toNat < 10000

namespace Env

variable (e : Env F)

abbrev th : Thread nD τ := thr e.d e.L

/-- Slot `b`'s share of the table. -/
abbrev tabPts (b : Fin 4) : sProp 𝕄 := tabAll.view.loc e.th ↦[tabAll.view.set]{leaf 2 e.q b} e.tab
/-- Slot `b`'s share of elements `S` of the list. -/
abbrev lstPts (b : Fin 4) (S : Finset S10240.Idx) : sProp 𝕄 := lstV.view.loc e.th ↦[S]{leaf 2 fullShare b} e.lst
/-- Slot `b`'s row buffer holding block `blk`. -/
def rowsAt (b : Fin 4) (blk : ℕ) : sProp 𝕄 :=
  iprop(∃ f, ((rowV b).view.loc e.th ↦[(rowV b).view.set]{fullShare} f) ∗ ⌜(rowV b).view.read (Elt F) f = gath e.tab e.lst blk⌝)
/-- Slot `b` with block `blk` landed. -/
def landed (b : Fin 4) (blk : ℕ) : sProp 𝕄 :=
  iprop(e.rowsAt b blk ∗ e.tabPts b ∗ e.lstPts b Finset.univ ∗ semVal (e.th, SemLoc.dma (rowSem b)) 0)
/-- Slot `b` idle. -/
def idle (b : Fin 4) : sProp 𝕄 :=
  iprop((∃ f, (rowV b).view.loc e.th ↦[(rowV b).view.set]{fullShare} f) ∗ e.tabPts b ∗ e.lstPts b Finset.univ
    ∗ semVal (e.th, SemLoc.dma (rowSem b)) 0)
/-- Slot `b` with block `blk`'s gather in flight. -/
def flying (b : Fin 4) (blk : ℕ) : sProp 𝕄 :=
  iprop(∃ S : Finset S10240.Idx, Transfers.Flight countersEmb e.th (.dma (rowSem b)) (default : HIx 1) (rowV b).view.dmaCredit
      iprop(e.rowsAt b blk ∗ e.tabPts b ∗ e.lstPts b S)
    ∗ e.lstPts b (Finset.univ \ S))
/-- Slot `b` with block `blk`'s gather in flight, if there is such a block. -/
def next (b : Fin 4) (blk : ℕ) : sProp 𝕄 := if blk < 80 then e.flying b blk else e.idle b

/-- Slot `b` in trip `t` at phase `ph`: phase `2b` before its wait, `2b + 1` while its block is worked on, `2b + 2` on from the issue
    of the gather of the block four further on. -/
def slot (t ph : ℕ) (b : Fin 4) : sProp 𝕄 :=
  if ph ≤ 2 * b.val then e.flying b (4 * t + b.val)
  else if ph = 2 * b.val + 1 then e.landed b (4 * t + b.val)
  else e.next b (4 * (t + 1) + b.val)

/-- The waits a tile has made, none of them a handshake's. -/
def waits : sProp 𝕄 := iprop(∃ W', ⌜∀ p ∈ W', p ∈ e.W ∨ p.2 = none⌝ ∗ owes e.th e.O W')

/-- The blocks gathered in trip `t`. -/
abbrev blocks (t : ℕ) (b : ℕ) : S128x128.Idx → Elt F .f32 := gath e.tab e.lst (4 * t + b)

/-- A tile's state in trip `t`, which it entered with the output block at `f0`, at phase `ph` and after `n` stores. -/
def state (t : Fin k0_t1_loop.trips) (f0 : S320x128.Idx → Elt F .f32) (ph n : ℕ) : sProp 𝕄 :=
  iprop((bigSep Finset.univ fun b : Fin 4 => e.slot t.val ph b)
    ∗ (outV.view.loc e.th ↦{fullShare} outAfter t (e.blocks t.val) f0 n)
    ∗ levAts (K (F := F)).L (K (F := F)).lev ∗ e.waits)

/-- From phase `ph` and `n` stores, `p` ends with `a`, at phase `ph'` and `n'` stores. -/
def Runs {α : Type} (t : Fin k0_t1_loop.trips) (f0 : S320x128.Idx → Elt F .f32) (ph n : ℕ)
    (p : Prog (TpuEff nD τ sig (Elt F) Λ₀ (.scVector ((e.L 0).castLE hcore0) ((e.L 1).castLE hsub0))) α) (a : α) (ph' n' : ℕ) : Prop :=
  e.state t f0 ph n ⊢ wp frame (wpE (defs₀ (F := F)) 𝒱₀ e.th none) Set.univ p fun x => iprop(⌜x = a⌝ ∗ e.state t f0 ph' n')

variable {e} {t : Fin k0_t1_loop.trips} {f0 : S320x128.Idx → Elt F .f32} {ph n : ℕ}

theorem Runs.pure {α : Type} (a : α) : e.Runs t f0 ph n (pure a) a ph n := by
  unfold Runs
  iintro H
  rw [show (Pure.pure a : Prog (TpuEff nD τ sig (Elt F) Λ₀ (.scVector ((e.L 0).castLE hcore0) ((e.L 1).castLE hsub0))) α) = .ret a from rfl]
  sl_step
  isplitr
  · ipureintro; rfl
  · iexact H

theorem Runs.bind {α β : Type} {p : Prog (TpuEff nD τ sig (Elt F) Λ₀ (.scVector ((e.L 0).castLE hcore0) ((e.L 1).castLE hsub0))) α}
    {k : α → Prog (TpuEff nD τ sig (Elt F) Λ₀ (.scVector ((e.L 0).castLE hcore0) ((e.L 1).castLE hsub0))) β}
    {a : α} {a' : β} {ph₁ n₁ ph₂ n₂ : ℕ} (hp : e.Runs t f0 ph n p a ph₁ n₁) (hk : e.Runs t f0 ph₁ n₁ (k a) a' ph₂ n₂) :
    e.Runs t f0 ph n (p >>= k) a' ph₂ n₂ := by
  unfold Runs at hp hk ⊢
  rw [wp_bind]
  refine hp.trans (wp_mono frame _ _ fun x => ?_)
  iintro ⟨%hx, H⟩
  subst hx
  iapply hk $$ H

/-! ### The slots -/

variable (e) in
/-- The state with slot `b` taken out. -/
theorem state_slot (t : Fin k0_t1_loop.trips) (f0 : S320x128.Idx → Elt F .f32) (ph n : ℕ) (b : Fin 4) :
    e.state t f0 ph n = iprop((e.slot t.val ph b ∗ bigSep (Finset.univ.erase b) fun c => e.slot t.val ph c)
      ∗ (outV.view.loc e.th ↦{fullShare} outAfter t (e.blocks t.val) f0 n)
      ∗ levAts (K (F := F)).L (K (F := F)).lev ∗ e.waits) := by
  unfold state
  rw [SparseCore.bigSep_erase' (Finset.mem_univ b)]

/-- A slot's state is the same at two phases both before its wait, or both after its issue. -/
theorem slot_other {t ph ph' : ℕ} {b : Fin 4} (h : ∀ c : Fin 4, c ≠ b → (ph ≤ 2 * c.val ↔ ph' ≤ 2 * c.val) ∧ ph ≠ 2 * c.val + 1 ∧ ph' ≠ 2 * c.val + 1) :
    (bigSep (Finset.univ.erase b) fun c => e.slot t ph c) = bigSep (Finset.univ.erase b) fun c => e.slot t ph' c :=
  bigSep_congr fun c hc => by
    obtain ⟨h1, h2, h3⟩ := h c (Finset.ne_of_mem_erase hc)
    simp only [slot, h1, h2, h3, if_false]

theorem slot_flying (t : ℕ) (b : Fin 4) : e.slot t (2 * b.val) b = e.flying b (4 * t + b.val) := by
  simp [slot]
theorem slot_landed (t : ℕ) (b : Fin 4) : e.slot t (2 * b.val + 1) b = e.landed b (4 * t + b.val) := by
  simp [slot]
theorem slot_next (t : ℕ) (b : Fin 4) : e.slot t (2 * b.val + 2) b = e.next b (4 * (t + 1) + b.val) := by
  simp [slot]

/-! ### The wait for a block -/

theorem Runs.waitAt (b : Fin 4) {sp : Space} {s' : Shape} {e' : EltTy} {src : Memref sig .scVector sp s' e'}
    {h₁ : src.view.WordExact} {h₂ : (rowV b).view.WordExact} :
    e.Runs t f0 (2 * b.val) n (SparseCore.waitIndirectGather (rowSem b) src (rowV b) h₁ h₂) ⟨⟩ (2 * b.val + 1) n := by
  unfold Runs
  rw [state_slot e t f0 _ n b, state_slot e t f0 _ n b, slot_flying, slot_landed,
    slot_other (ph := 2 * b.val) (ph' := 2 * b.val + 1) (b := b) (fun c hc => by
      have : c.val ≠ b.val := fun h => hc (Fin.ext h)
      omega)]
  unfold flying waits
  iintro ⟨⟨⟨%S, Hfl, Hrest⟩, Hsl⟩, Hout, #Hlv, %W', %hW', HO⟩
  ihave Hmw := (show levAts (K (F := F)).L (K (F := F)).lev ⊢ Transfers.MayWaits e.th (default : HIx 1) e.O from
    (K (F := F)).mayWaits_none (thr := e.th) e.hO) $$ Hlv
  unfold SparseCore.waitIndirectGather
  iapply (Transfers.wp_waitLocalO countersEmb 𝒱₀ e.th none (default : HIx 1) (rfl : (rowV b).view.dmaCredit = _)) $$ [Hfl HO]
  · isplitl [Hfl]; · iexact Hfl
    isplitl [HO]; · iexact HO
    iapply (Transfers.MayWaits.elim (SemLoc.dma (rowSem b))) $$ Hmw
  iintro ⟨⟨Hrow, Htab, Hl⟩, Hsem, HO⟩
  sl_step
  isplitr; · ipureintro; rfl
  isplitr [Hout HO]
  · isplitr [Hsl]
    · unfold landed
      isplitl [Hrow]; · iexact Hrow
      isplitl [Htab]; · iexact Htab
      isplitr [Hsem]
      · ihave Hj := (pointsTo_split_subset (q := leaf 2 fullShare b) (f := e.lst) (ℓ := lstV.view.loc e.th) (S := Finset.univ) (Finset.subset_univ S)).2 $$ [Hl Hrest]
        · isplitl [Hl] <;> iassumption
        iexact Hj
      iexact Hsem
    iexact Hsl
  isplitl [Hout]; · iexact Hout
  isplitr; · iexact Hlv
  iexists _; isplitr
  swap; · iexact HO
  ipureintro; intro p hp
  rcases Finset.mem_insert.mp hp with hp | hp; · exact .inr (hp ▸ rfl)
  exact hW' p hp

/-! ### A load of a gathered row's lanes -/

theorem Runs.loadAt (b : Fin 4) (r c : ℕ) {h : ∀ a, (![r, c] : Fin 2 → ℕ) a + S1x16.size a ≤ S128x128.size a}
    {hl : (rowV b).view.LoadsAt (Rect.unit (s := S128x128) ![r, c] S1x16.size h).toLoadRect} :
    e.Runs t f0 (2 * b.val + 1) n (Prog.lift (.load (rowV b) (Rect.unit (s := S128x128) ![r, c] S1x16.size h).toLoadRect hl))
      (lanes (e.blocks t.val b.val) r c) (2 * b.val + 1) n := by
  unfold Runs
  rw [state_slot e t f0 _ n b, slot_landed]
  unfold landed rowsAt
  iintro ⟨⟨⟨⟨%f, Hrow, %hf⟩, Hrest⟩, Hsl⟩, Hothers⟩
  iapply (wp_load 𝒱₀ e.th none Set.univ (m := rowV b) (hl := hl) (k := .ret) (S := (rowV b).view.set) (by
    rw [← View.setOn_univ]; exact Finset.map_subset_map.mpr (Finset.subset_univ _))) $$ Hrow
  iintro Hrow
  sl_step
  isplitr
  · ipureintro
    funext x
    rw [View.readAt_apply, hf]
    unfold lanes blocks
    congr 1
    refine (eq_ix2 _).trans ?_
    have h0 := h 0; have h1 := h 1
    have x0 := (x 0).isLt; have x1 := (x 1).isLt
    simp at h0 h1 x0 x1
    congr 1 <;> apply Fin.ext <;> simp [LoadRect.idx, Fin.ofNat] <;> omega
  isplitr [Hothers]
  · isplitr [Hsl]
    · isplitl [Hrow]
      · iexists f; isplitl [Hrow]; · iexact Hrow
        ipureintro; exact hf
      iexact Hrest
    iexact Hsl
  iexact Hothers

/-! ### A load of the output block, whose value nothing uses; the store into it -/

theorem Runs.loadOut {r : LoadRect S320x128} {hl : outV.view.LoadsAt r} :
    e.Runs t f0 ph n (Prog.lift (.load outV r hl)) (outV.view.readAt (Elt F) r (outAfter t (e.blocks t.val) f0 n)) ph n := by
  unfold Runs state
  iintro ⟨Hsl, Hout, Hrest⟩
  iapply (wp_load 𝒱₀ e.th none Set.univ (m := outV) (hl := hl) (k := .ret) (Finset.subset_univ _)) $$ Hout
  iintro Hout
  sl_step
  isplitr; · ipureintro; rfl
  isplitl [Hsl]; · iexact Hsl
  isplitl [Hout]; · iexact Hout
  iexact Hrest

omit [FloatOps F] in
/-- What a store of sixteen lanes of one row leaves. -/
theorem write_lanes {off : Fin 2 → ℕ} {h : ∀ a, off a + S1x16.size a ≤ S320x128.size a} (r c : ℕ) (hoff : off = ![r, 16 * c])
    (f : S320x128.Idx → Elt F .f32) (v : S1x16.Idx → Elt F .f32) (x : S320x128.Idx) :
    (outV.access (Rect.unit (s := S320x128) off S1x16.size h)).write (Elt F) f v Finset.univ x
      = if (x 0).val = r ∧ (x 1).val / 16 = c then v (at2 1 16 0 ((x 1).val % 16)) else f x := by
  subst hoff
  have h0 := h 0; have h1 := h 1
  simp at h0 h1
  split
  · rename_i hx
    obtain ⟨hr, hc⟩ := hx
    have hx' : x = (outV.access (Rect.unit (s := S320x128) ![r, 16 * c] S1x16.size h)).emb (at2 1 16 0 ((x 1).val % 16)) := by
      refine (eq_ix2 _).trans (Eq.trans ?_ (eq_ix2 _).symm)
      congr 1 <;> apply Fin.ext
      · show (x 0).val = r + 1 * _
        simp [Fin.ofNat, hr]
      · show (x 1).val = 16 * c + 1 * ((x 1).val % 16 % 16)
        omega
    conv_lhs => rw [hx']
    exact View.write_emb_of_mem _ _ (Finset.mem_univ _)
  · rename_i hx
    refine View.write_of_not_mem _ _ _ fun hm => hx ?_
    obtain ⟨y, -, hy⟩ := Finset.mem_map.mp hm
    have y0 : (y 0).val < 1 := (y 0).isLt
    have y1 : (y 1).val < 16 := (y 1).isLt
    have e0 : (x 0).val = r + 1 * (y 0).val := by rw [← hy]; rfl
    have e1 : (x 1).val = 16 * c + 1 * (y 1).val := by rw [← hy]; rfl
    omega

theorem Runs.store {off : Fin 2 → ℕ} {h : ∀ a, off a + S1x16.size a ≤ S320x128.size a} {v : S1x16.Idx → Elt F .f32}
    {hx : (outV.access (Rect.unit (s := S320x128) off S1x16.size h)).Stores Finset.univ}
    {hm : (Finset.univ : Finset (Rect.unit (s := S320x128) off S1x16.size h).shape.Idx) = Finset.univ ∨ ∀ a, (Rect.unit (s := S320x128) off S1x16.size h).stride a = 1}
    (hoff : off = storeOff t n) (hv : v = storeVal (e.blocks t.val) n) (hn : n < 128) {n' : ℕ} (hn' : n + 1 = n') :
    e.Runs t f0 ph n (Prog.lift (.store outV (Rect.unit (s := S320x128) off S1x16.size h) v Finset.univ hx hm)) ⟨⟩ ph n' := by
  subst hn'
  unfold Runs state
  iintro ⟨Hsl, Hout, Hrest⟩
  iapply (wp_store 𝒱₀ e.th none Set.univ (m := outV) (hx := hx) (hm := hm) (k := .ret) (Finset.subset_univ _)) $$ Hout
  iintro Hout
  sl_step
  isplitr; · ipureintro; rfl
  isplitl [Hsl]; · iexact Hsl
  isplitl [Hout]
  · rw [show (outV.access (Rect.unit (s := S320x128) off S1x16.size h)).write (Elt F) (outAfter t (e.blocks t.val) f0 n) v Finset.univ
      = outAfter t (e.blocks t.val) f0 (n + 1) from funext fun x => by
        rw [write_lanes _ _ (hoff.trans (storeOff_eq t n hn)), hv]; rfl]
    iexact Hout
  iexact Hrest

/-! ### The issue of a block's gather -/

variable (e) in
/-- What the list's entries are: rows of the table. -/
theorem list_inb {off : Fin 1 → ℕ} {h : ∀ a, off a + S128.size a ≤ S10240.size a} (x : S128.Idx) :
    ((lstAt off h).view.read (Elt F) e.lst x).toNat < S10000x128.size gathers_S10000x128_S128x128.axis := e.hlst _

omit [FloatOps F] in
theorem gath_payload {off : Fin 1 → ℕ} {h : ∀ a, off a + S128.size a ≤ S10240.size a} (e : Env F) (blk : ℕ) (hoff : off = ![128 * blk])
    (hn : S128.numel = S128x128.size gathers_S10000x128_S128x128.axis')
    (hin : ∀ x, ((lstAt off h).view.read (Elt F) e.lst x).toNat < S10000x128.size gathers_S10000x128_S128x128.axis) :
    SparseCore.gatherPayload gathers_S10000x128_S128x128 (tabAll.view.read (Elt F) e.tab)
      (SparseCore.rows ((lstAt off h).view.read (Elt F) e.lst) hn hin) = gath e.tab e.lst blk := by
  subst hoff
  have h0 : 128 * blk + 128 ≤ 10240 := h 0
  funext x
  have hx0 : (x 0).val < 128 := (x 0).isLt
  have hl : (SparseCore.rows ((lstAt ![128 * blk] h).view.read (Elt F) e.lst) hn hin (x gathers_S10000x128_S128x128.axis')).val
      = (e.lst (ix1 (Fin.ofNat 10240 (128 * blk + (x 0).val)))).toNat := by
    show ((lstAt ![128 * blk] h).view.read (Elt F) e.lst _).toNat = _
    rw [View.read_apply]
    refine congrArg BitVec.toNat ((cast_eq _ _).trans (congrArg e.lst ((eq_ix1 _).trans (congrArg ix1 (Fin.ext ?_)))))
    show 128 * blk + 1 * ((S128.rowMajor.symm _) 0).val = (128 * blk + (x 0).val) % 10240
    rw [← Shape.rowMajor_val_one, Equiv.apply_symm_apply]
    show 128 * blk + 1 * (x 0).val = _
    omega
  unfold gath SparseCore.gatherPayload
  rw [View.read_apply]
  refine (cast_eq _ _).trans (congrArg e.tab ((eq_ix2 _).trans ?_))
  have hlt := e.hlst (ix1 (Fin.ofNat 10240 (128 * blk + (x 0).val)))
  congr 1 <;> apply Fin.ext
  · show 0 + 1 * (gathers_S10000x128_S128x128.idx _ x 0).val = _ % 10000
    rw [Nat.mod_eq_of_lt hlt, ← hl, show (0 : Fin S10000x128.rank) = gathers_S10000x128_S128x128.axis from rfl, Shape.Gathers.idx_axis]
    omega
  · show 0 + 1 * (gathers_S10000x128_S128x128.idx _ x 1).val = (x 1).val % 128
    rw [Shape.Gathers.idx_of_ne _ _ _ _ (by decide)]
    have : (x 1).val < 128 := (x 1).isLt
    show 0 + 1 * (x 1).val = _
    omega

theorem gather_flying (b : Fin 4) (blk : ℕ) {off : Fin 1 → ℕ} {h : ∀ a, off a + S128.size a ≤ S10240.size a} (hoff : off = ![128 * blk])
    {hp : e.th.2.kind = .scVector} {hn : S128.numel = S128x128.size gathers_S10000x128_S128x128.axis'}
    {hsrc : tabAll.view.WordExact} {he : EltTy.f32.bits = 32} {hsp : Space.hbm = .hbm ∨ Space.hbm = .shared} {hr : S10000x128.StreamRows 0}
    {α : Type} {k : PUnit → Prog (TpuEff nD τ sig (Elt F) Λ₀ (.scVector ((e.L 0).castLE hcore0) ((e.L 1).castLE hsub0))) α} {Q : α → sProp 𝕄} :
    e.idle b ⊢ iprop((e.flying b blk -∗ wp frame (wpE (defs₀ (F := F)) 𝒱₀ e.th none) Set.univ (k ⟨⟩) Q)
      -∗ wp frame (wpE (defs₀ (F := F)) 𝒱₀ e.th none) Set.univ
        (SparseCore.enqueueIndirectGather hp tabAll (rowV b) gathers_S10000x128_S128x128 (lstAt off h) hn (rowSem b) hsrc he hsp hr >>= k) Q) := by
  have hN : ∀ h : S10000x128.Gathers 0 S128x128, ∑ j, ((rowV b).slice (S128x128.rowRect h.axis' j) (S128x128.stride_rowRect h.axis' j)).view.dmaCredit
      = (rowV b).view.dmaCredit := by revert b; decide
  unfold idle
  iintro ⟨⟨%f, Hrow⟩, Htab, Hl, Hsem⟩ Hk
  ihave Hls := (pointsTo_split_subset (q := leaf 2 fullShare b) (f := e.lst) (ℓ := lstV.view.loc e.th) (S := Finset.univ) (Finset.subset_univ (lstAt off h).view.set)).1 $$ Hl
  icases Hls with ⟨Hl, Hlr⟩
  iapply (SparseCore.wp_indirectGatherLocal countersEmb 𝒱₀ e.th none (hg := gathers_S10000x128_S128x128) (default : HIx 1)
      (rowV b).view.dmaCredit (hN _) (by decide) (e.list_inb (h := h))) $$ [Hrow Htab Hl Hsem]
  · isplitl [Htab]; · iexact Htab
    isplitl [Hrow]; · iexact Hrow
    isplitl [Hl]; · iexact Hl
    iexact Hsem
  iintro Hfl
  iapply Hk
  unfold flying
  iexists (lstAt off h).view.set
  isplitl [Hfl]
  · iapply (Transfers.Flight_mono (EC := countersEmb) ?_) $$ Hfl
    iintro ⟨Hrow, Htab, Hl⟩
    isplitl [Hrow]
    · unfold rowsAt
      iexists _
      isplitl [Hrow]; · iexact Hrow
      ipureintro
      rw [View.read_write_univ, gath_payload e blk hoff]
    isplitl [Htab]; · iexact Htab
    iexact Hl
  iexact Hlr

theorem landed_idle (b : Fin 4) (blk : ℕ) : e.landed b blk ⊢ e.idle b := by
  unfold landed idle rowsAt
  iintro ⟨⟨%f, Hrow, -⟩, Hrest⟩
  isplitl [Hrow]; · iexists f; iexact Hrow
  iexact Hrest

/-- The end of a block: the gather four blocks further on is issued, if there is one, and the program goes on the same either way. -/
theorem Runs.issueAt (b : Fin 4) {c : Prop} [Decidable c] {off : Fin 1 → ℕ} {h : c → ∀ a, off a + S128.size a ≤ S10240.size a}
    (hc : c ↔ 4 * (t.val + 1) + b.val < 80) (hoff : off = ![128 * (4 * (t.val + 1) + b.val)])
    {hp : e.th.2.kind = .scVector} {hn : S128.numel = S128x128.size gathers_S10000x128_S128x128.axis'}
    {hsrc : tabAll.view.WordExact} {he : EltTy.f32.bits = 32} {hsp : Space.hbm = .hbm ∨ Space.hbm = .shared} {hr : S10000x128.StreamRows 0}
    {α : Type} {k : Prog (TpuEff nD τ sig (Elt F) Λ₀ (.scVector ((e.L 0).castLE hcore0) ((e.L 1).castLE hsub0))) α} {a : α} {ph' n' : ℕ}
    (hk : e.Runs t f0 (2 * b.val + 2) n k a ph' n') :
    e.Runs t f0 (2 * b.val + 1) n
      (dite c (fun hc => SparseCore.enqueueIndirectGather hp tabAll (rowV b) gathers_S10000x128_S128x128 (lstAt off (h hc)) hn (rowSem b) hsrc he hsp hr
        >>= fun _ => k) (fun _ => k)) a ph' n' := by
  unfold Runs at hk ⊢
  rw [state_slot e t f0 _ n b, slot_next, ← slot_other (t := t.val) (ph := 2 * b.val + 1) (ph' := 2 * b.val + 2) (b := b) (fun c hc => by
      have : c.val ≠ b.val := fun h => hc (Fin.ext h)
      omega)] at hk
  rw [state_slot e t f0 _ n b, slot_landed]
  unfold next at hk
  iintro ⟨⟨Hb, Hsl⟩, Hrest⟩
  ihave Hb' := (landed_idle b _) $$ Hb
  by_cases hcc : c
  · rw [if_pos (hc.mp hcc)] at hk
    rw [dif_pos hcc]
    iapply (gather_flying b _ hoff) $$ Hb'
    iintro Hb'
    iapply hk
    isplitr [Hrest]
    · isplitl [Hb']; · iexact Hb'
      iexact Hsl
    iexact Hrest
  · rw [if_neg (fun h => hcc (hc.mpr h))] at hk
    rw [dif_neg hcc]
    iapply hk
    isplitr [Hrest]
    · isplitl [Hb']; · iexact Hb'
      iexact Hsl
    iexact Hrest

attribute [irreducible] Runs

end Env

end Cert.Proof.Pool

end
-- ==== Proof.Trip.lean ====
module

public import proofs.«01_k».proof.Proof.Base

@[expose] public section

noncomputable section

namespace Cert.Proof.Pool

open Cert.KernelIdeal Cert.KernelIdeal.Gen
open Idealize.ShloMosaic
open Idealize.ShloMosaic.SparseCore (S V T)
open Idealize.SL Idealize.SL.Sem

variable {F : FTy → Type} [FloatOps F]
namespace Env
variable {e : Env F} {t : Fin k0_t1_loop.trips} {f0 : S320x128.Idx → Elt F .f32} {ph n : ℕ}

/-! ## The rules at each slot's own buffer and semaphore -/

theorem Runs.load0 (r c : ℕ) {h : ∀ a, (![r, c] : Fin 2 → ℕ) a + S1x16.size a ≤ S128x128.size a}
    {hl : (Memref.whole cc0_scratch1 : Memref sig .scVector .vmem S128x128 .f32).view.LoadsAt (Rect.unit (s := S128x128) ![r, c] S1x16.size h).toLoadRect} :
    e.Runs t f0 1 n (Prog.lift (.load (Memref.whole cc0_scratch1) (Rect.unit (s := S128x128) ![r, c] S1x16.size h).toLoadRect hl))
      (lanes (e.blocks t.val 0) r c) 1 n := Runs.loadAt 0 r c
theorem Runs.wait0 {sp : Space} {s' : Shape} {e' : EltTy} {src : Memref sig .scVector sp s' e'}
    {h₁ : src.view.WordExact} {h₂ : (Memref.whole cc0_scratch1 : Memref sig .scVector .vmem S128x128 .f32).view.WordExact} :
    e.Runs t f0 0 n (SparseCore.waitIndirectGather cc0_scratch6.sem src (Memref.whole cc0_scratch1) h₁ h₂) ⟨⟩ 1 n := Runs.waitAt 0
theorem cond0 : ∀ t : Fin k0_t1_loop.trips, k0_cond1 t = 1#1 ↔ 4 * (t.val + 1) + 0 < 80 := by decide +kernel
theorem Runs.issue0 {hp : e.th.2.kind = .scVector} {hn : S128.numel = S128x128.size gathers_S10000x128_S128x128.axis'}
    {hsrc : tabAll.view.WordExact} {he : EltTy.f32.bits = 32} {hsp : Space.hbm = .hbm ∨ Space.hbm = .shared} {hr : S10000x128.StreamRows 0}
    {α : Type} {k : Prog (TpuEff nD τ sig (Elt F) Λ₀ (.scVector ((e.L 0).castLE hcore0) ((e.L 1).castLE hsub0))) α} {a : α} {ph' n' : ℕ}
    (hk : e.Runs t f0 2 n k a ph' n') :
    e.Runs t f0 1 n
      (dite (k0_cond1 t = 1#1) (fun hc =>
        SparseCore.enqueueIndirectGather hp tabAll (Memref.whole cc0_scratch1) gathers_S10000x128_S128x128
          (lstV.slice (Rect.unit (s := S10240) (k0_off11 t) S128.size (k0_off11_inb t hc)) (fun _ => rfl)) hn cc0_scratch6.sem hsrc he hsp hr
          >>= fun _ => k) (fun _ => k)) a ph' n' :=
  Runs.issueAt 0 (h := k0_off11_inb t) (cond0 t) (by rw [k0_off11_eq]; congr 1; show _ = 128 * (4 * (t.val + 1) + 0); omega) hk

theorem Runs.load1 (r c : ℕ) {h : ∀ a, (![r, c] : Fin 2 → ℕ) a + S1x16.size a ≤ S128x128.size a}
    {hl : (Memref.whole cc0_scratch2 : Memref sig .scVector .vmem S128x128 .f32).view.LoadsAt (Rect.unit (s := S128x128) ![r, c] S1x16.size h).toLoadRect} :
    e.Runs t f0 3 n (Prog.lift (.load (Memref.whole cc0_scratch2) (Rect.unit (s := S128x128) ![r, c] S1x16.size h).toLoadRect hl))
      (lanes (e.blocks t.val 1) r c) 3 n := Runs.loadAt 1 r c
theorem Runs.wait1 {sp : Space} {s' : Shape} {e' : EltTy} {src : Memref sig .scVector sp s' e'}
    {h₁ : src.view.WordExact} {h₂ : (Memref.whole cc0_scratch2 : Memref sig .scVector .vmem S128x128 .f32).view.WordExact} :
    e.Runs t f0 2 n (SparseCore.waitIndirectGather cc0_scratch7.sem src (Memref.whole cc0_scratch2) h₁ h₂) ⟨⟩ 3 n := Runs.waitAt 1
theorem cond1 : ∀ t : Fin k0_t1_loop.trips, k0_cond2 t = 1#1 ↔ 4 * (t.val + 1) + 1 < 80 := by decide +kernel
theorem Runs.issue1 {hp : e.th.2.kind = .scVector} {hn : S128.numel = S128x128.size gathers_S10000x128_S128x128.axis'}
    {hsrc : tabAll.view.WordExact} {he : EltTy.f32.bits = 32} {hsp : Space.hbm = .hbm ∨ Space.hbm = .shared} {hr : S10000x128.StreamRows 0}
    {α : Type} {k : Prog (TpuEff nD τ sig (Elt F) Λ₀ (.scVector ((e.L 0).castLE hcore0) ((e.L 1).castLE hsub0))) α} {a : α} {ph' n' : ℕ}
    (hk : e.Runs t f0 4 n k a ph' n') :
    e.Runs t f0 3 n
      (dite (k0_cond2 t = 1#1) (fun hc =>
        SparseCore.enqueueIndirectGather hp tabAll (Memref.whole cc0_scratch2) gathers_S10000x128_S128x128
          (lstV.slice (Rect.unit (s := S10240) (k0_off12 t) S128.size (k0_off12_inb t hc)) (fun _ => rfl)) hn cc0_scratch7.sem hsrc he hsp hr
          >>= fun _ => k) (fun _ => k)) a ph' n' :=
  Runs.issueAt 1 (h := k0_off12_inb t) (cond1 t) (by rw [k0_off12_eq]; congr 1; show _ = 128 * (4 * (t.val + 1) + 1); omega) hk

theorem Runs.load2 (r c : ℕ) {h : ∀ a, (![r, c] : Fin 2 → ℕ) a + S1x16.size a ≤ S128x128.size a}
    {hl : (Memref.whole cc0_scratch3 : Memref sig .scVector .vmem S128x128 .f32).view.LoadsAt (Rect.unit (s := S128x128) ![r, c] S1x16.size h).toLoadRect} :
    e.Runs t f0 5 n (Prog.lift (.load (Memref.whole cc0_scratch3) (Rect.unit (s := S128x128) ![r, c] S1x16.size h).toLoadRect hl))
      (lanes (e.blocks t.val 2) r c) 5 n := Runs.loadAt 2 r c
theorem Runs.wait2 {sp : Space} {s' : Shape} {e' : EltTy} {src : Memref sig .scVector sp s' e'}
    {h₁ : src.view.WordExact} {h₂ : (Memref.whole cc0_scratch3 : Memref sig .scVector .vmem S128x128 .f32).view.WordExact} :
    e.Runs t f0 4 n (SparseCore.waitIndirectGather cc0_scratch8.sem src (Memref.whole cc0_scratch3) h₁ h₂) ⟨⟩ 5 n := Runs.waitAt 2
theorem cond2 : ∀ t : Fin k0_t1_loop.trips, k0_cond3 t = 1#1 ↔ 4 * (t.val + 1) + 2 < 80 := by decide +kernel
theorem Runs.issue2 {hp : e.th.2.kind = .scVector} {hn : S128.numel = S128x128.size gathers_S10000x128_S128x128.axis'}
    {hsrc : tabAll.view.WordExact} {he : EltTy.f32.bits = 32} {hsp : Space.hbm = .hbm ∨ Space.hbm = .shared} {hr : S10000x128.StreamRows 0}
    {α : Type} {k : Prog (TpuEff nD τ sig (Elt F) Λ₀ (.scVector ((e.L 0).castLE hcore0) ((e.L 1).castLE hsub0))) α} {a : α} {ph' n' : ℕ}
    (hk : e.Runs t f0 6 n k a ph' n') :
    e.Runs t f0 5 n
      (dite (k0_cond3 t = 1#1) (fun hc =>
        SparseCore.enqueueIndirectGather hp tabAll (Memref.whole cc0_scratch3) gathers_S10000x128_S128x128
          (lstV.slice (Rect.unit (s := S10240) (k0_off13 t) S128.size (k0_off13_inb t hc)) (fun _ => rfl)) hn cc0_scratch8.sem hsrc he hsp hr
          >>= fun _ => k) (fun _ => k)) a ph' n' :=
  Runs.issueAt 2 (h := k0_off13_inb t) (cond2 t) (by rw [k0_off13_eq]; congr 1; show _ = 128 * (4 * (t.val + 1) + 2); omega) hk

theorem Runs.load3 (r c : ℕ) {h : ∀ a, (![r, c] : Fin 2 → ℕ) a + S1x16.size a ≤ S128x128.size a}
    {hl : (Memref.whole cc0_scratch4 : Memref sig .scVector .vmem S128x128 .f32).view.LoadsAt (Rect.unit (s := S128x128) ![r, c] S1x16.size h).toLoadRect} :
    e.Runs t f0 7 n (Prog.lift (.load (Memref.whole cc0_scratch4) (Rect.unit (s := S128x128) ![r, c] S1x16.size h).toLoadRect hl))
      (lanes (e.blocks t.val 3) r c) 7 n := Runs.loadAt 3 r c
theorem Runs.wait3 {sp : Space} {s' : Shape} {e' : EltTy} {src : Memref sig .scVector sp s' e'}
    {h₁ : src.view.WordExact} {h₂ : (Memref.whole cc0_scratch4 : Memref sig .scVector .vmem S128x128 .f32).view.WordExact} :
    e.Runs t f0 6 n (SparseCore.waitIndirectGather cc0_scratch9.sem src (Memref.whole cc0_scratch4) h₁ h₂) ⟨⟩ 7 n := Runs.waitAt 3
theorem cond3 : ∀ t : Fin k0_t1_loop.trips, k0_cond4 t = 1#1 ↔ 4 * (t.val + 1) + 3 < 80 := by decide +kernel
theorem Runs.issue3 {hp : e.th.2.kind = .scVector} {hn : S128.numel = S128x128.size gathers_S10000x128_S128x128.axis'}
    {hsrc : tabAll.view.WordExact} {he : EltTy.f32.bits = 32} {hsp : Space.hbm = .hbm ∨ Space.hbm = .shared} {hr : S10000x128.StreamRows 0}
    {α : Type} {k : Prog (TpuEff nD τ sig (Elt F) Λ₀ (.scVector ((e.L 0).castLE hcore0) ((e.L 1).castLE hsub0))) α} {a : α} {ph' n' : ℕ}
    (hk : e.Runs t f0 8 n k a ph' n') :
    e.Runs t f0 7 n
      (dite (k0_cond4 t = 1#1) (fun hc =>
        SparseCore.enqueueIndirectGather hp tabAll (Memref.whole cc0_scratch4) gathers_S10000x128_S128x128
          (lstV.slice (Rect.unit (s := S10240) (k0_off14 t) S128.size (k0_off14_inb t hc)) (fun _ => rfl)) hn cc0_scratch9.sem hsrc he hsp hr
          >>= fun _ => k) (fun _ => k)) a ph' n' :=
  Runs.issueAt 3 (h := k0_off14_inb t) (cond3 t) (by rw [k0_off14_eq]; congr 1; show _ = 128 * (4 * (t.val + 1) + 3); omega) hk

end Env

/-- One trip of the tile's loop. -/
def trip (L : grid0.Coords) (t : Fin k0_t1_loop.trips) :
    Prog (TpuEff nD τ sig (Elt F) Λ₀ (.scVector ((L 0).castLE hcore0) ((L 1).castLE hsub0))) PUnit := do
  let ⟨v14, v15, v2390⟩ : Σ' (v14 : BitVec 32) (v15 : BitVec 32), FVec F S16 .f32 ← k0_part431 L tabV (Memref.isWhole_whole _) idxV (Memref.isWhole_whole _) resV (Memref.isWhole_whole _) lstV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) outV (Memref.isWhole_whole _)
    cc0_scratch6 cc0_scratch7 cc0_scratch8 cc0_scratch9 cc0_scoped0 cc0_scoped1 0#32 1#32 t
  let ⟨v4279, v4768⟩ : Σ' (v4279 : BitVec 32), FVec F S16 .f32 ← k0_part432 L tabV (Memref.isWhole_whole _) idxV (Memref.isWhole_whole _) resV (Memref.isWhole_whole _) lstV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) outV (Memref.isWhole_whole _)
    cc0_scratch6 cc0_scratch7 cc0_scratch8 cc0_scratch9 cc0_scoped0 cc0_scoped1 t v14 v15 v2390
  let v7150 : FVec F S16 .f32 ← k0_part433 L tabV (Memref.isWhole_whole _) idxV (Memref.isWhole_whole _) resV (Memref.isWhole_whole _) lstV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) outV (Memref.isWhole_whole _)
    cc0_scratch6 cc0_scratch7 cc0_scratch8 cc0_scratch9 cc0_scoped0 cc0_scoped1 t v4279 v4768
  let ⟨v8543, v9528, v9530⟩ : Σ' (v8543 : BitVec 32) (v9528 : FVec F S16 .f32), Vec F S1x16 .f32 ← k0_part434 L tabV (Memref.isWhole_whole _) idxV (Memref.isWhole_whole _) resV (Memref.isWhole_whole _) lstV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) outV (Memref.isWhole_whole _)
    cc0_scratch6 cc0_scratch7 cc0_scratch8 cc0_scratch9 cc0_scoped0 cc0_scoped1 t v14 v4279 v7150
  let ⟨v11910, v11912⟩ : Σ' (v11910 : FVec F S16 .f32), Vec F S1x16 .f32 ← k0_part435 L tabV (Memref.isWhole_whole _) idxV (Memref.isWhole_whole _) resV (Memref.isWhole_whole _) lstV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) outV (Memref.isWhole_whole _)
    cc0_scratch6 cc0_scratch7 cc0_scratch8 cc0_scratch9 cc0_scoped0 cc0_scoped1 t v8543 v9528 v9530
  let ⟨v12807, v14288, v14291⟩ : Σ' (v12807 : BitVec 32) (v14288 : FVec F S16 .f32), FVec F S16 .f32 ← k0_part436 L tabV (Memref.isWhole_whole _) idxV (Memref.isWhole_whole _) resV (Memref.isWhole_whole _) lstV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) outV (Memref.isWhole_whole _)
    cc0_scratch6 cc0_scratch7 cc0_scratch8 cc0_scratch9 cc0_scoped0 cc0_scoped1 t v14 v8543 v11910 v11912
  let ⟨v16670, v16673⟩ : Σ' (v16670 : FVec F S16 .f32), FVec F S16 .f32 ← k0_part437 L tabV (Memref.isWhole_whole _) idxV (Memref.isWhole_whole _) resV (Memref.isWhole_whole _) lstV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) outV (Memref.isWhole_whole _)
    cc0_scratch6 cc0_scratch7 cc0_scratch8 cc0_scratch9 cc0_scoped0 cc0_scoped1 t v12807 v14288 v14291
  let ⟨v16710, v16713⟩ : Σ' (v16710 : FVec F S16 .f32), FVec F S16 .f32 ← k0_part421 L tabV (Memref.isWhole_whole _) idxV (Memref.isWhole_whole _) resV (Memref.isWhole_whole _) lstV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) outV (Memref.isWhole_whole _)
    cc0_scratch6 cc0_scratch7 cc0_scratch8 cc0_scratch9 cc0_scoped0 cc0_scoped1 v16670 v16673
  let ⟨v16750, v16753⟩ : Σ' (v16750 : FVec F S16 .f32), FVec F S16 .f32 ← k0_part422 L tabV (Memref.isWhole_whole _) idxV (Memref.isWhole_whole _) resV (Memref.isWhole_whole _) lstV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) outV (Memref.isWhole_whole _)
    cc0_scratch6 cc0_scratch7 cc0_scratch8 cc0_scratch9 cc0_scoped0 cc0_scoped1 v16710 v16713
  let ⟨v16790, v16793⟩ : Σ' (v16790 : FVec F S16 .f32), FVec F S16 .f32 ← k0_part423 L tabV (Memref.isWhole_whole _) idxV (Memref.isWhole_whole _) resV (Memref.isWhole_whole _) lstV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) outV (Memref.isWhole_whole _)
    cc0_scratch6 cc0_scratch7 cc0_scratch8 cc0_scratch9 cc0_scoped0 cc0_scoped1 v16750 v16753
  let v16831 : FVec F S16 .f32 ← k0_part424 L tabV (Memref.isWhole_whole _) idxV (Memref.isWhole_whole _) resV (Memref.isWhole_whole _) lstV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) outV (Memref.isWhole_whole _)
    cc0_scratch6 cc0_scratch7 cc0_scratch8 cc0_scratch9 cc0_scoped0 cc0_scoped1 t v12807 v16790 v16793
  let v16871 : FVec F S16 .f32 ← k0_part425 L tabV (Memref.isWhole_whole _) idxV (Memref.isWhole_whole _) resV (Memref.isWhole_whole _) lstV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) outV (Memref.isWhole_whole _)
    cc0_scratch6 cc0_scratch7 cc0_scratch8 cc0_scratch9 cc0_scoped0 cc0_scoped1 v16831
  let v16911 : FVec F S16 .f32 ← k0_part426 L tabV (Memref.isWhole_whole _) idxV (Memref.isWhole_whole _) resV (Memref.isWhole_whole _) lstV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) outV (Memref.isWhole_whole _)
    cc0_scratch6 cc0_scratch7 cc0_scratch8 cc0_scratch9 cc0_scoped0 cc0_scoped1 v16871
  let ⟨v16948, v16951⟩ : Σ' (v16948 : FVec F S16 .f32), FVec F S16 .f32 ← k0_part427 L tabV (Memref.isWhole_whole _) idxV (Memref.isWhole_whole _) resV (Memref.isWhole_whole _) lstV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) outV (Memref.isWhole_whole _)
    cc0_scratch6 cc0_scratch7 cc0_scratch8 cc0_scratch9 cc0_scoped0 cc0_scoped1 t v12807 v16911
  let ⟨v16988, v16991⟩ : Σ' (v16988 : FVec F S16 .f32), FVec F S16 .f32 ← k0_part428 L tabV (Memref.isWhole_whole _) idxV (Memref.isWhole_whole _) resV (Memref.isWhole_whole _) lstV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) outV (Memref.isWhole_whole _)
    cc0_scratch6 cc0_scratch7 cc0_scratch8 cc0_scratch9 cc0_scoped0 cc0_scoped1 v16948 v16951
  let ⟨v17028, v17031⟩ : Σ' (v17028 : FVec F S16 .f32), FVec F S16 .f32 ← k0_part429 L tabV (Memref.isWhole_whole _) idxV (Memref.isWhole_whole _) resV (Memref.isWhole_whole _) lstV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) outV (Memref.isWhole_whole _)
    cc0_scratch6 cc0_scratch7 cc0_scratch8 cc0_scratch9 cc0_scoped0 cc0_scoped1 v16988 v16991
  k0_part430 L tabV (Memref.isWhole_whole _) idxV (Memref.isWhole_whole _) resV (Memref.isWhole_whole _) lstV (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) outV (Memref.isWhole_whole _)
    cc0_scratch6 cc0_scratch7 cc0_scratch8 cc0_scratch9 cc0_scoped0 cc0_scoped1 t v12807 v17028 v17031
  if k0_h4 : k0_cond4 t = 1#1 then do
    let c4_i32_8485 : BitVec 32 := 4#32
    let v17071 : BitVec 32 := Scalar.addi v12807 c4_i32_8485
    let c128_i32_8486 : BitVec 32 := 128#32
    let v17072 : BitVec 32 := Scalar.muli v17071 c128_i32_8486
    let v17073 : Memref sig .scVector .vmem S128 .i32 := lstV.slice (Rect.unit (s := S10240) (k0_off14 t) S128.size (k0_off14_inb t k0_h4)) (fun _ => rfl)
    let c0_i32_8487 : BitVec 32 := 0#32
    let c0_i32_8488 : BitVec 32 := 0#32
    let v17074 : Memref sig .scVector .hbm S10000x128 .f32 := tabV.slice (Rect.unit (s := S10000x128) ![0, 0] S10000x128.size inb_S10000x128_S10000x128_0_0) (fun _ => rfl)
    SparseCore.enqueueIndirectGather rfl v17074 (Memref.whole cc0_scratch4) gathers_S10000x128_S128x128 v17073 rfl cc0_scratch9.sem (View.wordExact_bits rfl) rfl (Or.inl rfl)
    pure ⟨⟩
  else do
    pure ⟨⟩
  pure ⟨⟩

namespace Env

set_option maxRecDepth 100000 in
set_option maxHeartbeats 0 in
/-- A trip works the ring round once: its four blocks are waited for and pooled, their queries' hundred and twenty-eight vectors stored, and the
    gathers of the four blocks after them begun. -/
theorem trip_runs (e : Env F) (t : Fin k0_t1_loop.trips) (f0 : S320x128.Idx → Elt F .f32) : e.Runs t f0 0 0 (trip e.L t) ⟨⟩ 8 128 := by
  unfold trip
  repeat' (first
    | with_reducible eapply Runs.bind
    | with_reducible exact Runs.load0 _ _
    | with_reducible exact Runs.load1 _ _
    | with_reducible exact Runs.load2 _ _
    | with_reducible exact Runs.load3 _ _
    | with_reducible exact Runs.pure _
    | with_reducible exact Runs.loadOut
    | ((with_reducible eapply Runs.store); (· rfl); (· rfl); (· decide); (· simp only [Nat.reduceAdd]; rfl))
    | with_reducible exact Runs.wait0
    | with_reducible exact Runs.wait1
    | with_reducible exact Runs.wait2
    | with_reducible exact Runs.wait3
    | eapply Runs.bind
    | apply Runs.issue0
    | apply Runs.issue1
    | apply Runs.issue2
    | apply Runs.issue3)

end Env
end Cert.Proof.Pool
end
-- ==== Proof.Pooled.lean ====
/-
  What the tiles compute, as a function: `pool` of the table and the flat list of row numbers. The lane groups, blocks and
  trips of the tile's loop are forgotten here: after a trip the output block holds, in the sixteen rows of that trip, the
  maximum over the thirty-two table rows which the list names for the query (`outAfter_trip`).
-/
module

public import proofs.«01_k».proof.Proof.Trip

@[expose] public section

noncomputable section

namespace Cert.Proof.Pool

open Cert.KernelIdeal Cert.KernelIdeal.Gen
open Idealize.ShloMosaic
open Idealize.ShloMosaic.ValueIdx

variable {F : FTy → Type} [FloatOps F]

/-- The running maximum of `f 0`, …, `f n`, taken from the left. -/
def maxTo (f : ℕ → F .f32) : ℕ → F .f32
  | 0 => f 0
  | n + 1 => FloatOps.maximumf (maxTo f n) (f (n + 1))

theorem maxTo_congr {f g : ℕ → F .f32} : ∀ {n : ℕ}, (∀ k ≤ n, f k = g k) → maxTo f n = maxTo g n
  | 0, h => h 0 le_rfl
  | n + 1, h => by
    rw [maxTo, maxTo, maxTo_congr fun k hk => h k (Nat.le_succ_of_le hk), h _ le_rfl]

/-- Query `r`'s maximum in column `c`: over the thirty-two table rows which the list names at `32 * r` onwards. The list is given as a
    function of the position. -/
def poolAt (tab : S10000x128.Idx → Elt F .f32) (lst : ℕ → BitVec 32) (r c : ℕ) : F .f32 :=
  maxTo (fun k => tab (at2 10000 128 (lst (32 * r + k)).toNat c)) 31

omit [FloatOps F] in
theorem shapeCast_lanes (v : Vec F S1x16 .f32) (x : S16.Idx) : shapeCast S16 v shapeCasts_S1x16_S16 x = v (at2 1 16 0 (x 0).val) := by
  refine congrArg v ((eq_ix2 _).trans ?_)
  have hx : (x 0).val < 16 := (x 0).isLt
  have h := Shape.rowMajor_reshapeEquiv shapeCasts_S1x16_S16 x
  rw [Shape.rowMajor_val_one, Shape.rowMajor_val_two] at h
  have h0 : (Shape.reshapeEquiv shapeCasts_S1x16_S16 x 0).val < 1 := (Shape.reshapeEquiv shapeCasts_S1x16_S16 x 0).isLt
  have h1 : (Shape.reshapeEquiv shapeCasts_S1x16_S16 x 1).val < 16 := (Shape.reshapeEquiv shapeCasts_S1x16_S16 x 1).isLt
  congr 1 <;> apply Fin.ext
  · show _ = 0 % 1
    omega
  · show _ = (x 0).val % 16
    simp at h
    omega

theorem poolTo_apply (g : S128x128.Idx → Elt F .f32) (r c : ℕ) (x : S16.Idx) :
    ∀ k : ℕ, poolTo g r c k x = maxTo (fun k => g (at2 128 128 (r + k) (c + (x 0).val))) k := by
  have hx : (x 0).val < 16 := (x 0).isLt
  have hl (r : ℕ) : shapeCast S16 (lanes g r c) shapeCasts_S1x16_S16 x = g (at2 128 128 r (c + (x 0).val)) := by
    rw [shapeCast_lanes]
    show g (at2 128 128 (r + 0 % 1) (c + (x 0).val % 16)) = _
    rw [Nat.mod_eq_of_lt hx]; rfl
  intro k
  induction k with
  | zero => exact hl r
  | succ k ih =>
    show FloatOps.maximumf (poolTo g r c k x) _ = _
    rw [ih, hl]; rfl

theorem storeVal_apply (g : ℕ → S128x128.Idx → Elt F .f32) (n l : ℕ) (hl : l < 16) :
    storeVal g n (at2 1 16 0 l) = maxTo (fun k => g (n / 32) (at2 128 128 (32 * (n / 8 % 4) + k) (16 * (n % 8) + l))) 31 := by
  unfold storeVal shapeCast
  rw [poolTo_apply]
  have h := Shape.rowMajor_reshapeEquiv shapeCasts_S16_S1x16 (at2 1 16 0 l)
  rw [Shape.rowMajor_val_one, Shape.rowMajor_val_two] at h
  have h0 : (Shape.reshapeEquiv shapeCasts_S16_S1x16 (at2 1 16 0 l) 0).val = l := by
    rw [h]
    show 0 % 1 * 16 + l % 16 = l
    omega
  rw [h0]

/-- The output block after `n` stores of trip `t`: the `8 * r + c / 16`-th of all stores writes row `r` in the sixteen columns around `c`. -/
theorem outAfter_eq (t : Fin k0_t1_loop.trips) (g : ℕ → S128x128.Idx → Elt F .f32) (f0 : S320x128.Idx → Elt F .f32) (x : S320x128.Idx) :
    ∀ n : ℕ, outAfter t g f0 n x
      = if 128 * t.val ≤ 8 * (x 0).val + (x 1).val / 16 ∧ 8 * (x 0).val + (x 1).val / 16 < 128 * t.val + n
        then storeVal g (8 * (x 0).val + (x 1).val / 16 - 128 * t.val) (at2 1 16 0 ((x 1).val % 16)) else f0 x := by
  have hx1 : (x 1).val < 128 := (x 1).isLt
  intro n
  induction n with
  | zero => rw [if_neg (by omega)]; rfl
  | succ n ih =>
    show (if (x 0).val = 16 * t.val + n / 8 ∧ (x 1).val / 16 = n % 8 then storeVal g n (at2 1 16 0 ((x 1).val % 16))
      else outAfter t g f0 n x) = _
    rw [ih]
    split
    · rw [if_pos (by omega), show 8 * (x 0).val + (x 1).val / 16 - 128 * t.val = n by omega]
    · by_cases hn : 128 * t.val ≤ 8 * (x 0).val + (x 1).val / 16 ∧ 8 * (x 0).val + (x 1).val / 16 < 128 * t.val + n
      · rw [if_pos hn, if_pos (by omega)]
      · rw [if_neg hn, if_neg (by omega)]

/-- A list by position. -/
def listAt (lst : S10240.Idx → BitVec 32) (j : ℕ) : BitVec 32 := lst (ix1 (Fin.ofNat 10240 j))

/-- After trip `t` the rows below `16 * (t + 1)` of the output block are pooled, if those below `16 * t` were before. -/
theorem outAfter_trip (e : Env F) (t : Fin k0_t1_loop.trips) (f0 : S320x128.Idx → Elt F .f32)
    (h0 : ∀ x : S320x128.Idx, (x 0).val < 16 * t.val → f0 x = poolAt e.tab (listAt e.lst) (x 0).val (x 1).val)
    (x : S320x128.Idx) (hx : (x 0).val < 16 * (t.val + 1)) :
    outAfter t (e.blocks t.val) f0 128 x = poolAt e.tab (listAt e.lst) (x 0).val (x 1).val := by
  have hx1 : (x 1).val < 128 := (x 1).isLt
  rw [outAfter_eq]
  by_cases hlt : (x 0).val < 16 * t.val
  · rw [if_neg (by omega)]; exact h0 x hlt
  · rw [if_pos (by omega), storeVal_apply _ _ _ (by omega)]
    refine maxTo_congr fun k hk => ?_
    set n := 8 * (x 0).val + (x 1).val / 16 - 128 * t.val with hn
    show gath e.tab e.lst (4 * t.val + n / 32) _ = _
    unfold gath listAt
    have e0 : 128 * (4 * t.val + n / 32) + (32 * (n / 8 % 4) + k) % 128 = 32 * (x 0).val + k := by omega
    have e1 : (16 * (n % 8) + (x 1).val % 16) % 128 = (x 1).val := by omega
    show e.tab (at2 10000 128 (e.lst (ix1 (Fin.ofNat 10240 (128 * (4 * t.val + n / 32) + (32 * (n / 8 % 4) + k) % 128)))).toNat
      ((16 * (n % 8) + (x 1).val % 16) % 128)) = _
    rw [e0, e1]

end Cert.Proof.Pool

end
-- ==== Proof.Tile.lean ====
/-
  One tile's run of the kernel. The tile fetches its ten thousand two hundred and forty entries of the flat list, starts
  the gathers of its first four blocks, works the ring round twenty times (`Env.trip_runs`) and writes its block of three
  hundred and twenty pooled rows out. Its block of the result then holds `pool`, restricted to that block.
-/
module

public import proofs.«01_k».proof.Proof.Pooled

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.ShareLeaves (leaf pointsTo_leaves)
open Idealize.ShloMosaic.Tactic

variable {F : FTy → Type}

local notation "𝕄" => MT nD τ sig (HIx 1) (Elt F) ℕ UU ℕ

/-! ## The three arrays in main memory and a tile's part of each -/

abbrev tabLoc (d : Dev nD) : Loc nD τ sig := (SparseCore.T d).loc main_arg0
abbrev idxLoc (d : Dev nD) : Loc nD τ sig := (SparseCore.T d).loc main_v3
abbrev resLoc (d : Dev nD) : Loc nD τ sig := (SparseCore.T d).loc main_v4

theorem idiv : 32 ∣ S327680.size 0 := ⟨10240, rfl⟩
theorem odiv : 32 ∣ S10240x128.size 0 := ⟨320, rfl⟩
/-- Part `w` of the flat list and block `w` of the result. -/
abbrev idxPart (w : Fin 32) : Rect S327680 := Rect.part (s := S327680) (a₀ := 0) idiv w
abbrev resPart (w : Fin 32) : Rect S10240x128 := Rect.part (s := S10240x128) (a₀ := 0) odiv w
abbrev idxSet (w : Fin 32) : Finset S327680.Idx := (idxPart w).set
abbrev resSet (w : Fin 32) : Finset S10240x128.Idx := (resPart w).set

/-- The number of the tile at `L`. -/
def tileNo (L : grid0.Coords) : Fin 32 :=
  ⟨2 * (L 1).val + (L 0).val, by
    have h0 : (L 0).val < 2 := (L 0).isLt
    have h1 : (L 1).val < 16 := (L 1).isLt
    omega⟩

abbrev idxRectK (L : grid0.Coords) : Rect S327680 := Rect.unit (s := S327680) (k0_off1 L) S10240.size (k0_off1_inb L)
abbrev resRectK (L : grid0.Coords) : Rect S10240x128 := Rect.unit (s := S10240x128) (k0_off15 L) S320x128.size (k0_off15_inb L)
abbrev idxK (L : grid0.Coords) : Memref sig .scVector .hbm S10240 .i32 := idxV.slice (idxRectK L) (fun _ => rfl)
abbrev resK (L : grid0.Coords) : Memref sig .scVector .hbm S320x128 .f32 := resV.slice (resRectK L) (fun _ => rfl)

theorem idxRectK_eq (L : grid0.Coords) : idxRectK L = idxPart (tileNo L) := by
  unfold idxRectK idxPart Rect.part Rect.block
  congr 1 <;> funext a
  · rw [k0_off1_eq]
    match a with
    | 0 => simp [Shape.partIx, Shape.partSize, tileNo]; omega
  · match a with
    | 0 => simp [Shape.partSize]
theorem resRectK_eq (L : grid0.Coords) : resRectK L = resPart (tileNo L) := by
  unfold resRectK resPart Rect.part Rect.block
  congr 1 <;> funext a
  · rw [k0_off15_eq]
    match a with
    | 0 => simp [Shape.partIx, Shape.partSize, tileNo]; omega
    | 1 => simp [Shape.partIx, Shape.partSize]
  · match a with
    | 0 => simp [Shape.partSize]
    | 1 => simp [Shape.partSize]

theorem set_idxK (L : grid0.Coords) : (idxK L).view.set = idxSet (tileNo L) := by
  show ((View.whole (main_v3_scv : Ref sig .scVector)).slice (idxRectK L)).set = _
  rw [View.set_slice]
  exact Finset.map_refl.trans (by rw [idxRectK_eq])
theorem set_resK (L : grid0.Coords) : (resK L).view.set = resSet (tileNo L) := by
  show ((View.whole (main_v4_scv : Ref sig .scVector)).slice (resRectK L)).set = _
  rw [View.set_slice]
  exact Finset.map_refl.trans (by rw [resRectK_eq])

/-- Tile `w`'s share of the table. -/
abbrev tabQ (w : Fin 32) : PosShare TreeShare := leaf 5 fullShare w

abbrev idxPts (d : Dev nD) (w : Fin 32) (idx : S327680.Idx → Elt F .i32) : sProp 𝕄 := idxLoc d ↦[idxSet w]{fullShare} idx
abbrev tabShPts (d : Dev nD) (w : Fin 32) (tab : S10000x128.Idx → Elt F .f32) : sProp 𝕄 := tabLoc d ↦{tabQ w} tab
abbrev resPts (d : Dev nD) (w : Fin 32) (f : S10240x128.Idx → Elt F .f32) : sProp 𝕄 := resLoc d ↦[resSet w]{fullShare} f

theorem pts_idxK (d : Dev nD) (L : grid0.Coords) (f : S327680.Idx → Elt F .i32) :
    ((idxK L).view.loc (thr d L) ↦[(idxK L).view.set]{fullShare} f : sProp 𝕄) = idxPts d (tileNo L) f := by
  rw [set_idxK]
theorem pts_resK (d : Dev nD) (L : grid0.Coords) (f : S10240x128.Idx → Elt F .f32) :
    ((resK L).view.loc (thr d L) ↦[(resK L).view.set]{fullShare} f : sProp 𝕄) = resPts d (tileNo L) f := by
  rw [set_resK]

/-- The part of the flat list which the tile at `L` fetches. -/
def fetched (L : grid0.Coords) (idx : S327680.Idx → Elt F .i32) : S10240.Idx → Elt F .i32 :=
  fun j => idx (ix1 (Fin.ofNat 327680 (10240 * (tileNo L).val + (j 0).val)))

theorem read_idxK (L : grid0.Coords) (idx : S327680.Idx → Elt F .i32) :
    (idxK L).view.read (Elt F) idx = fetched L idx := by
  funext j
  refine ((View.read_apply _ _).trans (cast_eq _ _)).trans ?_
  show idx ((idxRectK L).idx j) = _
  refine congrArg idx ((eq_ix1 _).trans ?_)
  congr 1
  apply Fin.ext
  show k0_off1 L 0 + 1 * (j 0).val = _ % 327680
  rw [k0_off1_eq]
  have h0 : (L 0).val < 2 := (L 0).isLt
  have h1 : (L 1).val < 16 := (L 1).isLt
  have hj : (j 0).val < 10240 := (j 0).isLt
  show 20480 * (L 1).val + 10240 * (L 0).val + 1 * (j 0).val = (10240 * (2 * (L 1).val + (L 0).val) + (j 0).val) % 327680
  omega

/-! ## A tile's own buffers and semaphores -/

/-- A separating conjunction over a set, with the members of a list taken out in turn. -/
theorem bigSep_peel {ι : Type} [DecidableEq ι] (Φ : ι → sProp 𝕄) :
    ∀ (l : List ι) (s : Finset ι), l.Nodup → (∀ x ∈ l, x ∈ s) →
      bigSep s Φ = l.foldr (fun x A => iprop(Φ x ∗ A)) (bigSep (l.foldl Finset.erase s) Φ)
  | [], _, _, _ => rfl
  | x :: l, s, hn, h => by
    rw [SparseCore.bigSep_erase' (h x List.mem_cons_self),
      bigSep_peel Φ l (s.erase x) (List.nodup_cons.mp hn).2 fun y hy => Finset.mem_erase.mpr
        ⟨fun e => (List.nodup_cons.mp hn).1 (e ▸ hy), h y (List.mem_cons_of_mem _ hy)⟩]
    rfl

abbrev tileSems : List (DmaSem sig) := [cc0_scoped0.sem, cc0_scoped1.sem, cc0_scratch6.sem, cc0_scratch7.sem, cc0_scratch8.sem, cc0_scratch9.sem]
abbrev tileRefs : List (Ref sig .scVector) := [cc0_scratch0, cc0_scratch5, cc0_scratch1, cc0_scratch2, cc0_scratch3, cc0_scratch4]

theorem ownSems0_tile (d : Dev nD) (L : grid0.Coords) :
    (ownSems0 (thr d L) : sProp 𝕄)
      = (tileSems.map fun s => ((thr d L, SemLoc.dma s) : GSem nD τ sig)).foldr (fun g A => iprop(semVal g 0 ∗ A))
          (bigSep ((tileSems.map fun s => ((thr d L, SemLoc.dma s) : GSem nD τ sig)).foldl Finset.erase (ownCells (thr d L))) fun g => semVal g 0) := by
  unfold SparseCore.Cfg.ownSems0
  refine bigSep_peel (F := F) (fun g => semVal g 0) _ _ (List.Nodup.map (fun a b h => by simpa using h) (by decide)) fun g hg => ?_
  obtain ⟨s, hs, rfl⟩ := List.mem_map.mp hg
  exact mem_ownCells.mpr ⟨rfl, (by decide : ∀ s ∈ tileSems, (SemLoc.dma s : SemLoc sig).isScoped .scVector = true) s hs⟩

theorem tileRefs_nodup : tileRefs.Nodup := by decide

theorem ownBufs_tile (d : Dev nD) (L : grid0.Coords) :
    (ownBufs (thr d L) : sProp 𝕄)
      = (tileRefs.map fun r => (Proc.scVector (cV L) (jV L)).devRef r).foldr (fun b A => iprop((∃ f, ((d, b) : Loc nD τ sig) ↦{fullShare} f) ∗ A))
          (bigSep ((tileRefs.map fun r => (Proc.scVector (cV L) (jV L)).devRef r).foldl Finset.erase (ownRefs (τ := τ) (.scVector (cV L) (jV L))))
            fun b => iprop(∃ f, ((d, b) : Loc nD τ sig) ↦{fullShare} f)) := by
  unfold SparseCore.Cfg.ownBufs
  refine bigSep_peel (F := F) (fun b => iprop(∃ f, ((d, b) : Loc nD τ sig) ↦{fullShare} f)) _ _ (List.Nodup.map (Proc.devRef_injective _) tileRefs_nodup) fun g hg => ?_
  obtain ⟨s, hs, rfl⟩ := List.mem_map.mp hg
  exact SparseCore.Cfg.mem_ownRefs_of_owner (p := Proc.scVector (cV L) (jV L))
    ((by simp only [tileRefs, List.forall_mem_cons, List.not_mem_nil, false_implies, implies_true, and_true]; exact ⟨rfl, rfl, rfl, rfl, rfl, rfl⟩ :
      ∀ s ∈ tileRefs, ((Proc.scVector (cV L) (jV L)).devRef s : DevRef τ sig).owner = .proc (Proc.scVector (cV L) (jV L))) s hs)

theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

namespace Env

variable [FloatOps F] (e : Env F)

/-- The ring with nothing in flight: its four buffers, the tile's share of the table, its list and its four semaphores. -/
theorem idle_all : (bigSep Finset.univ e.idle : sProp 𝕄)
    = iprop((bigSep Finset.univ fun b : Fin 4 => iprop(∃ f, (rowV b).view.loc e.th ↦[(rowV b).view.set]{fullShare} f))
        ∗ (tabAll.view.loc e.th ↦[tabAll.view.set]{e.q} e.tab) ∗ (lstV.view.loc e.th ↦{fullShare} e.lst)
        ∗ bigSep Finset.univ fun b : Fin 4 => semVal (e.th, SemLoc.dma (rowSem b)) 0) := by
  unfold idle
  rw [bigSep_sep', bigSep_sep', bigSep_sep']
  congr 1
  congr 1
  · exact (pointsTo_leaves _ _ 2 e.q).symm
  congr 1
  exact (pointsTo_leaves _ _ 2 fullShare).symm

theorem row_pts (b : Fin 4) : (iprop(∃ f, (rowV b).view.loc e.th ↦[(rowV b).view.set]{fullShare} f) : sProp 𝕄)
    = iprop(∃ f, ((e.d, (Proc.scVector (cV e.L) (jV e.L)).devRef (rowRef b)) : Loc nD τ sig) ↦{fullShare} f) := by
  match b with
  | 0 => rw [show (rowV 0).view.set = Finset.univ from View.set_whole _]
  | 1 => rw [show (rowV 1).view.set = Finset.univ from View.set_whole _]
  | 2 => rw [show (rowV 2).view.set = Finset.univ from View.set_whole _]
  | 3 => rw [show (rowV 3).view.set = Finset.univ from View.set_whole _]

/-- The same, the four buffers and the four semaphores by name. -/
theorem ring_eq : (bigSep Finset.univ e.idle : sProp 𝕄)
    = iprop(((∃ f, ((e.d, (Proc.scVector (cV e.L) (jV e.L)).devRef cc0_scratch1) : Loc nD τ sig) ↦{fullShare} f)
          ∗ (∃ f, ((e.d, (Proc.scVector (cV e.L) (jV e.L)).devRef cc0_scratch2) : Loc nD τ sig) ↦{fullShare} f)
          ∗ (∃ f, ((e.d, (Proc.scVector (cV e.L) (jV e.L)).devRef cc0_scratch3) : Loc nD τ sig) ↦{fullShare} f)
          ∗ (∃ f, ((e.d, (Proc.scVector (cV e.L) (jV e.L)).devRef cc0_scratch4) : Loc nD τ sig) ↦{fullShare} f))
        ∗ (tabLoc e.d ↦[tabAll.view.set]{e.q} e.tab) ∗ (lstV.view.loc e.th ↦{fullShare} e.lst)
        ∗ semVal (e.th, SemLoc.dma cc0_scratch6.sem) 0 ∗ semVal (e.th, SemLoc.dma cc0_scratch7.sem) 0
        ∗ semVal (e.th, SemLoc.dma cc0_scratch8.sem) 0 ∗ semVal (e.th, SemLoc.dma cc0_scratch9.sem) 0) := by
  rw [idle_all, bigSep_four, bigSep_four, row_pts, row_pts, row_pts, row_pts]

/-- The state between trips: after `t` of them the output block's first `16 * t` rows are pooled and blocks `4 * t` to `4 * t + 3` are on their way. -/
def between (t : ℕ) : sProp 𝕄 :=
  iprop(∃ f : S320x128.Idx → Elt F .f32, ⌜∀ x, (x 0).val < 16 * t → f x = poolAt e.tab (listAt e.lst) (x 0).val (x 1).val⌝
    ∗ (bigSep Finset.univ fun b : Fin 4 => e.next b (4 * t + b.val)) ∗ (outV.view.loc e.th ↦{fullShare} f)
    ∗ levAts (K (F := F)).L (K (F := F)).lev ∗ e.waits)

/-- Before the first trip: the first four blocks are on their way. -/
theorem between_zero (f : S320x128.Idx → Elt F .f32) :
    iprop((e.flying 0 0 ∗ e.flying 1 1 ∗ e.flying 2 2 ∗ e.flying 3 3) ∗ (outV.view.loc e.th ↦{fullShare} f)
      ∗ levAts (K (F := F)).L (K (F := F)).lev ∗ e.waits) ⊢ e.between 0 := by
  unfold between
  rw [bigSep_four]
  iintro H
  iexists f
  isplitr
  · ipureintro; exact fun x hx => absurd hx (by omega)
  iexact H

/-- After the last: nothing is in flight, and the whole output block is pooled. -/
theorem between_last : e.between 20 ⊢ iprop(∃ f : S320x128.Idx → Elt F .f32, ⌜∀ x, f x = poolAt e.tab (listAt e.lst) (x 0).val (x 1).val⌝
    ∗ (bigSep Finset.univ e.idle) ∗ (outV.view.loc e.th ↦{fullShare} f) ∗ levAts (K (F := F)).L (K (F := F)).lev ∗ e.waits) := by
  unfold between
  iintro ⟨%f, %hf, Hn, Hr⟩
  iexists f
  isplitr
  · ipureintro; exact fun x => hf x (x 0).isLt
  isplitl [Hn]
  · iapply (Entails.of_eq (bigSep_congr (s := (Finset.univ : Finset (Fin 4))) (Φ := fun b => e.idle b)
      (Ψ := fun b => e.next b (4 * 20 + b.val)) fun b _ => by
        unfold next
        rw [if_neg (by omega)]).symm)
    iexact Hn
  iexact Hr

theorem between_enter (t : Fin k0_t1_loop.trips) (f : S320x128.Idx → Elt F .f32) :
    iprop((bigSep Finset.univ fun b : Fin 4 => e.next b (4 * t.val + b.val)) ∗ (outV.view.loc e.th ↦{fullShare} f)
      ∗ levAts (K (F := F)).L (K (F := F)).lev ∗ e.waits) ⊢ e.state t f 0 0 := by
  have ht : t.val < 20 := t.isLt.trans_le k0_t1_abs.2.1
  unfold state
  refine Entails.of_eq (congrArg (fun A => iprop(A ∗ (outV.view.loc e.th ↦{fullShare} f) ∗ levAts (K (F := F)).L (K (F := F)).lev ∗ e.waits)) ?_)
  refine bigSep_congr fun b _ => ?_
  unfold slot next
  rw [if_pos (by omega), if_pos (by omega)]

theorem between_leave (t : Fin k0_t1_loop.trips) (f : S320x128.Idx → Elt F .f32)
    (hf : ∀ x : S320x128.Idx, (x 0).val < 16 * t.val → f x = poolAt e.tab (listAt e.lst) (x 0).val (x 1).val) :
    e.state t f 8 128 ⊢ e.between (t.val + 1) := by
  unfold state between
  iintro ⟨Hn, Hr⟩
  iexists (outAfter t (e.blocks t) f 128)
  isplitr
  · ipureintro; exact fun x hx => outAfter_trip e t f hf x hx
  isplitl [Hn]
  · iapply (Entails.of_eq (bigSep_congr (s := (Finset.univ : Finset (Fin 4))) (Φ := fun b => e.slot t.val 8 b)
      (Ψ := fun b => e.next b (4 * (t.val + 1) + b.val)) fun b _ => by
        unfold slot
        rw [if_neg (by omega), if_neg (by omega)]))
    iexact Hn
  iexact Hr

theorem between_step (t : Fin k0_t1_loop.trips) :
    e.between t.val ⊢ wp frame (wpE (defs₀ (F := F)) 𝒱₀ e.th none) Set.univ (trip e.L t) fun _ => e.between (t.val + 1) := by
  have hl := e.between_leave t
  unfold between at hl ⊢
  iintro ⟨%f, %hf, H⟩
  have h := e.trip_runs t f
  unfold Runs at h
  refine (e.between_enter t f).trans (h.trans (wp_mono frame _ _ fun x => ?_))
  iintro ⟨-, H⟩
  iapply (hl f hf)
  iexact H

end Env

variable [FloatOps F]

/-! ## The tile's run -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The result: row `x 0` is the maximum over the thirty-two table rows which the flat list names at `32 * x 0` onwards. -/
def pool (tab : S10000x128.Idx → Elt F .f32) (idx : S327680.Idx → Elt F .i32) : S10240x128.Idx → Elt F .f32 :=
  fun x => poolAt tab (fun j => idx (ix1 (Fin.ofNat 327680 j))) (x 0).val (x 1).val

theorem poolAt_fetched (L : grid0.Coords) (tab : S10000x128.Idx → Elt F .f32) (idx : S327680.Idx → Elt F .i32) (r c : ℕ) (hr : r < 320) :
    poolAt tab (listAt (fetched L idx)) r c = poolAt tab (fun j => idx (ix1 (Fin.ofNat 327680 j))) (320 * (tileNo L).val + r) c := by
  refine maxTo_congr fun k hk => ?_
  have e : listAt (fetched L idx) (32 * r + k) = idx (ix1 (Fin.ofNat 327680 (32 * (320 * (tileNo L).val + r) + k))) := by
    show idx (ix1 (Fin.ofNat 327680 (10240 * (tileNo L).val + (32 * r + k) % 10240))) = _
    rw [Nat.mod_eq_of_lt (by omega), show 10240 * (tileNo L).val + (32 * r + k) = 32 * (320 * (tileNo L).val + r) + k by omega]
  simp only [e]

theorem emb_resK (L : grid0.Coords) (y : S320x128.Idx) :
    ((resK L).view.emb y 0).val = 320 * (tileNo L).val + (y 0).val ∧ ((resK L).view.emb y 1).val = (y 1).val := by
  constructor
  · show k0_off15 L 0 + 1 * (y 0).val = 320 * (2 * (L 1).val + (L 0).val) + (y 0).val
    rw [k0_off15_eq]
    show 640 * (L 1).val + 320 * (L 0).val + 1 * (y 0).val = _
    omega
  · show k0_off15 L 1 + 1 * (y 1).val = (y 1).val
    rw [k0_off15_eq]
    show 0 + 1 * (y 1).val = _
    omega

/-- The tile's block, written with its pooled rows, is the tile's block of `pool`. -/
theorem res_landed (d : Dev nD) (L : grid0.Coords) (tab : S10000x128.Idx → Elt F .f32) (idx : S327680.Idx → Elt F .i32)
    (f₀ : S10240x128.Idx → Elt F .f32) (pay : S320x128.Idx → Elt F .f32)
    (hpay : ∀ x, pay x = poolAt tab (listAt (fetched L idx)) (x 0).val (x 1).val) :
    ((resK L).view.loc (thr d L) ↦[(resK L).view.set]{fullShare} (resK L).view.writes (Elt F) f₀ [⟨Rect.whole S320x128, pay⟩] : sProp 𝕄)
      = resPts d (tileNo L) (pool tab idx) := by
  refine (pointsTo_congr fun x hx => ?_).trans (pts_resK d L (pool tab idx))
  obtain ⟨y, -, rfl⟩ := Finset.mem_map.mp hx
  have h := congrFun (View.read_writes_whole (Val := Elt F) (resK L).view f₀ pay) y
  rw [show ∀ g, (resK L).view.read (Elt F) g y = g ((resK L).view.emb y) from fun g => (View.read_apply _ _).trans (cast_eq _ _)] at h
  refine h.trans ((hpay y).trans ?_)
  rw [poolAt_fetched L tab idx _ _ (y 0).isLt]
  unfold pool
  rw [(emb_resK L y).1, (emb_resK L y).2]

theorem lst_landed (d : Dev nD) (L : grid0.Coords) (idx : S327680.Idx → Elt F .i32) (fs pay : S10240.Idx → Elt F .i32)
    (hpay : pay = (idxK L).view.read (Elt F) idx) :
    (lstV.view.loc (thr d L) ↦{fullShare} View.write (Elt F) lstV.view fs pay Finset.univ : sProp 𝕄)
      = (lstV.view.loc (thr d L) ↦{fullShare} fetched L idx) := by
  rw [View.write_whole_univ, hpay, read_idxK]

theorem trips_eq : k0_t1_loop.trips = 20 := by decide +kernel

abbrev envOf (d : Dev nD) (L : grid0.Coords) (tab : S10000x128.Idx → Elt F .f32) (idx : S327680.Idx → Elt F .i32)
    (hidx : ∀ j, (idx j).toNat < 10000) (O : CellTallies nD τ sig (HIx 1)) (W : Waits sig (HIx 1)) (hO : ∀ g, O g none = 0) : Env F where
  d := d
  L := L
  tab := tab
  lst := fetched L idx
  q := tabQ (tileNo L)
  O := O
  W := W
  hO := hO
  hlst := fun _ => hidx _

set_option maxRecDepth 100000 in
set_option maxHeartbeats 4000000 in
/-- The run of the tile at `L`: from its part of the list, its share of the table and its block of the result to the same with the block
    pooled. -/
theorem tile_body (d : Dev nD) (L : grid0.Coords) (tab : S10000x128.Idx → Elt F .f32) (idx : S327680.Idx → Elt F .i32)
    (res : S10240x128.Idx → Elt F .f32) (hidx : ∀ j, (idx j).toNat < 10000)
    (O : CellTallies nD τ sig (HIx 1)) (W : Waits sig (HIx 1)) (hO : ∀ g, O g none = 0) :
    iprop(levAts (K (F := F)).L (K (F := F)).lev ∗ emp
        ∗ (idxPts d (tileNo L) idx ∗ tabShPts d (tileNo L) tab ∗ resPts d (tileNo L) res)
        ∗ scopedBufs (thr d L) ∗ scopedSems0 (thr d L) ∗ owes (thr d L) O W)
      ⊢ wp frame (wpE (defs₀ (F := F)) 𝒱₀ (thr d L) none) Set.univ
          (cc0__max_pool_sc L tabV (Memref.isWhole_whole _) idxV (Memref.isWhole_whole _) resV (Memref.isWhole_whole _)
            lstV (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) outV (Memref.isWhole_whole _)
            cc0_scratch6 cc0_scratch7 cc0_scratch8 cc0_scratch9 cc0_scoped0 cc0_scoped1)
          fun _ => iprop((idxPts d (tileNo L) idx ∗ tabShPts d (tileNo L) tab ∗ resPts d (tileNo L) (pool tab idx))
            ∗ scopedBufs (thr d L) ∗ scopedSems0 (thr d L)
            ∗ ∃ W', ⌜∀ p ∈ W', p ∈ W ∨ p.2 = none⌝ ∗ owes (thr d L) O W') := by
  unfold cc0__max_pool_sc
  rw [(K (F := F)).scopedBufs_V facts d (cV L) (jV L), SparseCore.Cfg.scopedSems0_V (Val := Elt F) d (cV L) (jV L), ownSems0_tile, ownBufs_tile]
  simp only [tileSems, tileRefs, List.map_cons, List.map_nil, List.foldr_cons, List.foldr_nil]
  iintro ⟨#Hlv, -, ⟨Hi, Ht, Hres⟩, ⟨⟨%fs, Hl⟩, ⟨%fo, Ho⟩, H1, H2, H3, H4, Hbufs⟩, ⟨HsA, HsB, Hs1, Hs2, Hs3, Hs4, Hsems⟩, HO⟩
  ihave Hmw := (show levAts (K (F := F)).L (K (F := F)).lev ⊢ Transfers.MayWaits (thr d L) (default : HIx 1) O from
    (K (F := F)).mayWaits_none (thr := thr d L) hO) $$ Hlv
  ihave Hi' := (Entails.of_eq (pts_idxK (F := F) d L _).symm) $$ Hi
  ihave Hl' := (show ((d, (Proc.scVector (cV L) (jV L)).devRef cc0_scratch0) ↦{fullShare} fs : sProp 𝕄) ⊢ lstV.view.loc (thr d L) ↦{fullShare} fs from .rfl) $$ Hl
  sl_exec
  ihave Hl := (Entails.of_eq (lst_landed d L idx fs (tile_body.sl.dma0 L idx) rfl)) $$ Hl'
  ihave Hts := (pointsTo_split_subset (ℓ := tabLoc d) (q := tabQ (tileNo L)) (f := tab) (S := Finset.univ) (Finset.subset_univ (tabAll).view.set)).1 $$ Ht
  icases Hts with ⟨Ht, Htr⟩
  let e : Env F := envOf d L tab idx hidx O W hO
  ihave Hring := (Entails.of_eq ((Env.ring_eq e).symm.trans (bigSep_four _))) $$ [H1 H2 H3 H4 Ht Hl Hs1 Hs2 Hs3 Hs4]
  · isplitl [H1 H2 H3 H4]
    · isplitl [H1]; · iexact H1
      isplitl [H2]; · iexact H2
      isplitl [H3]; · iexact H3
      iexact H4
    isplitl [Ht]; · iexact Ht
    isplitl [Hl]; · iexact Hl
    isplitl [Hs1]; · iexact Hs1
    isplitl [Hs2]; · iexact Hs2
    isplitl [Hs3]; · iexact Hs3
    iexact Hs4
  icases Hring with ⟨Hr0, Hr1, Hr2, Hr3⟩
  iapply (Env.gather_flying (e := e) 0 0 rfl) $$ Hr0
  iintro Hr0
  iapply (Env.gather_flying (e := e) 1 1 rfl) $$ Hr1
  iintro Hr1
  iapply (Env.gather_flying (e := e) 2 2 rfl) $$ Hr2
  iintro Hr2
  iapply (Env.gather_flying (e := e) 3 3 rfl) $$ Hr3
  iintro Hr3
  sl_for (fun t (_ : PUnit) => e.between t) $$ [Hr0 Hr1 Hr2 Hr3 Ho HO Hlv]
  case region =>
    intro k _
    exact e.between_step k
  · iapply (Env.between_zero e fo)
    isplitl [Hr0 Hr1 Hr2 Hr3]
    · isplitl [Hr0]; · iexact Hr0
      isplitl [Hr1]; · iexact Hr1
      isplitl [Hr2]; · iexact Hr2
      iexact Hr3
    isplitl [Ho]; · iexact Ho
    isplitl [Hlv]; · iexact Hlv
    unfold Env.waits
    iexists _; isplitr
    swap; · iexact HO
    ipureintro; intro p hp
    rcases Finset.mem_insert.mp hp with hp | hp; · exact .inr (hp ▸ rfl)
    exact .inl hp
  iintro %_ HI
  ihave HI' := (show e.between k0_t1_loop.trips ⊢ _ from trips_eq ▸ Env.between_last e) $$ HI
  icases HI' with ⟨%f, %hf, Hring, Ho, -, Hw⟩
  ihave Hring' := (Entails.of_eq (Env.ring_eq e)) $$ Hring
  icases Hring' with ⟨⟨H1, H2, H3, H4⟩, Ht, Hl, Hs1, Hs2, Hs3, Hs4⟩
  unfold Env.waits
  icases Hw with ⟨%W', %hW', HO⟩
  ihave Ht' := (pointsTo_split_subset (ℓ := tabLoc d) (q := tabQ (tileNo L)) (f := tab) (S := Finset.univ) (Finset.subset_univ (tabAll).view.set)).2 $$ [Ht Htr]
  · isplitl [Ht] <;> iassumption
  ihave Hres' := (Entails.of_eq (pts_resK (F := F) d L _).symm) $$ Hres
  sl_exec
  sl_step
  isplitl [Hi' Ht' Hres']
  · isplitl [Hi']; · iapply (Entails.of_eq (pts_idxK (F := F) d L idx)); iexact Hi'
    isplitl [Ht']; · iexact Ht'
    iapply (Entails.of_eq (res_landed d L tab idx res (tile_body.sl.dma0_1 f) hf)); iexact Hres'
  isplitl [Hl Ho H1 H2 H3 H4 Hbufs]
  · isplitl [Hl]; · iexists _; iexact Hl
    isplitl [Ho]; · iexists _; iexact Ho
    isplitl [H1]; · iexact H1
    isplitl [H2]; · iexact H2
    isplitl [H3]; · iexact H3
    isplitl [H4]; · iexact H4
    iexact Hbufs
  isplitl [HsA HsB Hs1 Hs2 Hs3 Hs4 Hsems]
  · isplitl [HsA]; · iexact HsA
    isplitl [HsB]; · iexact HsB
    isplitl [Hs1]; · iexact Hs1
    isplitl [Hs2]; · iexact Hs2
    isplitl [Hs3]; · iexact Hs3
    isplitl [Hs4]; · iexact Hs4
    iexact Hsems
  iexists _; isplitr
  swap; · iexact HO
  ipureintro; intro p hp
  rcases Finset.mem_insert.mp hp with hp | hp; · exact .inr (hp ▸ rfl)
  exact hW' p hp

end Cert.Proof.Pool
end
-- ==== Proof.Launch.lean ====
/-
  The whole program's run. The TensorCore spreads the row numbers over a padded list, hands the table, the list and the
  result array to the thirty-two tiles — a read share of the table, a part of the list and a block of the result each —
  and cuts the padding rows off the result they bring back. `run_main` says what is in memory then: the arguments as
  they were, the result `pooled` of them, every semaphore at zero.
-/
module

public import proofs.«01_k».proof.Proof.Tile

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.ShareLeaves (leaf pointsTo_leaves)
open Idealize.ShloMosaic.Tactic

variable {F : FTy → Type} [FloatOps F]

local notation "𝕄" => MT nD τ sig (HIx 1) (Elt F) ℕ UU ℕ

/-! ## What the handshakes carry -/

theorem nSub_zero : (K (F := F)).nSub 0 = 16 := rfl
theorem nCore_zero : (K (F := F)).nCore 0 = 2 := rfl

/-- The number of tile `j` of core `c`. -/
def tileOf (c : Fin 2) (j : Fin 16) : Fin 32 := ⟨2 * j.val + c.val, by omega⟩

section Pay

variable (tab : Dev nD → S10000x128.Idx → Elt F .f32) (idx : Dev nD → S327680.Idx → Elt F .i32) (res : Dev nD → S10240x128.Idx → Elt F .f32)

/-- A tile's part of the list, its share of the table, and its block of the result at `g`. -/
abbrev parts (g : Dev nD → S10240x128.Idx → Elt F .f32) (d : Dev nD) (w : Fin 32) : sProp 𝕄 :=
  iprop(idxPts d w (idx d) ∗ tabShPts d w (tab d) ∗ resPts d w (g d))
/-- The parts of a core's tiles. -/
abbrev coreParts (g : Dev nD → S10240x128.Idx → Elt F .f32) (d : Dev nD) (c : Fin 2) : sProp 𝕄 :=
  bigSep Finset.univ fun j : Fin 16 => parts tab idx g d (tileOf c j)
/-- The result array the tiles leave. -/
abbrev poolOf (d : Dev nD) : S10240x128.Idx → Elt F .f32 := pool (tab d) (idx d)

def P : (K (F := F)).Pay (nD := nD) (Val := Elt F) (Name := ℕ) (U := UU) where
  st := fun q d c => match q with | 0 => coreParts tab idx res d (Fin.cast nCore_zero c)
  dn := fun q d c => match q with | 0 => coreParts tab idx (poolOf tab idx) d (Fin.cast nCore_zero c)
  go := fun q d c i => match q with | 0 => parts tab idx res d (tileOf (Fin.cast nCore_zero c) (Fin.cast nSub_zero i))
  td := fun q d c i => match q with | 0 => parts tab idx (poolOf tab idx) d (tileOf (Fin.cast nCore_zero c) (Fin.cast nSub_zero i))
  x := fun _ _ => iprop(emp)

instance P_storable : (P (F := F) tab idx res).IsStorable where
  st q d c := match q with
    | 0 => (inferInstance : BI.Storable (upEmb : UEmb _ 𝕄) (coreParts tab idx res d (Fin.cast nCore_zero c)))
  dn q d c := match q with
    | 0 => (inferInstance : BI.Storable (upEmb : UEmb _ 𝕄) (coreParts tab idx (poolOf tab idx) d (Fin.cast nCore_zero c)))
  go q d c i := match q with
    | 0 => (inferInstance : BI.Storable (upEmb : UEmb _ 𝕄) (parts tab idx res d (tileOf (Fin.cast nCore_zero c) (Fin.cast nSub_zero i))))
  td q d c i := match q with
    | 0 => (inferInstance : BI.Storable (upEmb : UEmb _ 𝕄) (parts tab idx (poolOf tab idx) d (tileOf (Fin.cast nCore_zero c) (Fin.cast nSub_zero i))))

/-! ## The tiles' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__max_pool_sc (coordsV c s) tabV (Memref.isWhole_whole _) idxV (Memref.isWhole_whole _) resV (Memref.isWhole_whole _)
            lstV (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) outV (Memref.isWhole_whole _)
            cc0_scratch6 cc0_scratch7 cc0_scratch8 cc0_scratch9 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hidx : ∀ d j, (idx d j).toNat < 10000) : (K (F := F)).TileObl (D (F := F)) 𝒱 (P tab idx res) v₀ 0 := by
  intro d c i O W hO _ _
  simp only [show (P tab idx res).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (tab d) (idx d) (res d) (hidx d) O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P tab idx res) 0 := by
  intro d c
  show coreParts tab idx res d (Fin.cast nCore_zero c) ⊢ |={Set.univ}=> iprop(
      (bigSep Finset.univ fun i : Fin ((K (F := F)).nSub 0) => parts tab idx res d (tileOf (Fin.cast nCore_zero c) (Fin.cast nSub_zero i)))
      ∗ ((bigSep Finset.univ fun i : Fin ((K (F := F)).nSub 0) => parts tab idx (poolOf tab idx) d (tileOf (Fin.cast nCore_zero c) (Fin.cast nSub_zero i)))
          -∗ coreParts tab idx (poolOf tab idx) d (Fin.cast nCore_zero c)))
  rw [bigSep_tasks (F := F) (fun i => parts tab idx res d (tileOf (Fin.cast nCore_zero c) i)),
    bigSep_tasks (F := F) (fun i => parts tab idx (poolOf tab idx) d (tileOf (Fin.cast nCore_zero c) i))]
  iintro H; imodintro
  isplitl [H]; · iexact H
  iintro H; iexact H

/-! ## The three arrays and the tiles' parts of them -/

theorem idx_parts (d : Dev nD) (f : S327680.Idx → Elt F .i32) :
    (idxLoc d ↦{fullShare} f : sProp 𝕄) = bigSep Finset.univ fun w : Fin 32 => idxPts d w f := by
  rw [← pointsTo_biUnion Finset.univ (ℓ := idxLoc d) idxSet (fun _ _ _ _ h => Rect.part_disjoint idiv h), Rect.biUnion_part idiv]; try rfl
theorem res_parts (d : Dev nD) (f : S10240x128.Idx → Elt F .f32) :
    (resLoc d ↦{fullShare} f : sProp 𝕄) = bigSep Finset.univ fun w : Fin 32 => resPts d w f := by
  rw [← pointsTo_biUnion Finset.univ (ℓ := resLoc d) resSet (fun _ _ _ _ h => Rect.part_disjoint odiv h), Rect.biUnion_part odiv]; try rfl
theorem leaves_cast {ℓ : Loc nD τ sig} (f : Buf (Elt F) ℓ) (n : ℕ) (q : PosShare TreeShare) {N : ℕ} (hN : N = 2 ^ n) :
    (ℓ ↦{q} f : sProp 𝕄) = bigSep Finset.univ fun w : Fin N => ℓ ↦{leaf n q (Fin.cast hN w)} f := by
  subst hN
  exact pointsTo_leaves Finset.univ f n q
theorem tab_parts (d : Dev nD) (f : S10000x128.Idx → Elt F .f32) :
    (tabLoc d ↦{fullShare} f : sProp 𝕄) = bigSep Finset.univ fun w : Fin 32 => tabShPts d w f :=
  (leaves_cast (F := F) (ℓ := tabLoc d) f 5 fullShare (N := 32) rfl).trans (bigSep_congr fun _ _ => rfl)

theorem bigSep_tiles (Φ : Fin 32 → sProp 𝕄) :
    bigSep Finset.univ Φ = bigSep Finset.univ fun c : Fin 2 => bigSep Finset.univ fun j : Fin 16 => Φ (tileOf c j) := by
  rw [bigSep_univ_equiv ((Equiv.prodComm (Fin 2) (Fin 16)).trans (finProdFinEquiv (m := 16) (n := 2))) Φ, bigSep_univ_prod]
  refine bigSep_congr fun c _ => bigSep_congr fun j _ => congrArg Φ (Fin.ext ?_)
  show c.val + 2 * j.val = 2 * j.val + c.val
  omega

/-- The three arrays whole are the two cores' parts. -/
theorem wholes (g : Dev nD → S10240x128.Idx → Elt F .f32) (d : Dev nD) :
    (iprop((idxLoc d ↦{fullShare} idx d) ∗ (tabLoc d ↦{fullShare} tab d) ∗ (resLoc d ↦{fullShare} g d)) : sProp 𝕄)
      = bigSep Finset.univ fun c : Fin 2 => coreParts tab idx g d c := by
  rw [← bigSep_tiles (fun w => parts tab idx g d w)]
  unfold parts
  rw [bigSep_sep', bigSep_sep', idx_parts, tab_parts, res_parts]

theorem st0_eq (d : Dev nD) : (bigSep Finset.univ fun c : Fin ((K (F := F)).nCore 0) => (P tab idx res).st 0 d c)
    = iprop((idxLoc d ↦{fullShare} idx d) ∗ (tabLoc d ↦{fullShare} tab d) ∗ (resLoc d ↦{fullShare} res d)) := by
  rw [wholes]
  exact bigSep_cores (fun c => coreParts tab idx res d c)
theorem dn0_eq (d : Dev nD) : (bigSep Finset.univ fun c : Fin ((K (F := F)).nCore 0) => (P tab idx res).dn 0 d c)
    = iprop((idxLoc d ↦{fullShare} idx d) ∗ (tabLoc d ↦{fullShare} tab d) ∗ (resLoc d ↦{fullShare} poolOf tab idx d)) := by
  rw [wholes tab idx (poolOf tab idx)]
  exact bigSep_cores (fun c => coreParts tab idx (poolOf tab idx) d c)

/-! ## The launch element of the ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P tab idx res).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) tab idx res).x q thr) = bigSep Finset.univ fun _ => iprop(emp) from
    bigSep_congr fun _ _ => bigSep_univ_of_subsingleton (0 : Fin 1), bigSep_emp']
  iempintro

end Pay

/-! ## The operations before the call and after it -/

abbrev a0' : DevRef τ sig := Proc.devRef .tc (main_arg0 : Ref sig .tc)
abbrev a1' : DevRef τ sig := Proc.devRef .tc (main_arg1 : Ref sig .tc)
abbrev c' : DevRef τ sig := Proc.devRef .tc (main_c : Ref sig .tc)
abbrev v0' : DevRef τ sig := Proc.devRef .tc (main_v0 : Ref sig .tc)
abbrev c0' : DevRef τ sig := Proc.devRef .tc (main_c_0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

abbrev op0 : HloOp τ sig (Elt F) := StableHlo.nullary main_c (constantI S_ 32 0#32)
abbrev op1 : HloOp τ sig (Elt F) := StableHlo.unary main_c main_v0 (broadcastInDim S10240x32 ![] bcast_S_S10240x32 : (⟨S_, .i32⟩ : BufTy).Contents (Elt F) → (⟨S10240x32, .i32⟩ : BufTy).Contents (Elt F))
abbrev op2 : HloOp τ sig (Elt F) := StableHlo.nullary main_c_0 (constantI S_ 32 0#32)
abbrev op3 : HloOp τ sig (Elt F) := StableHlo.unary main_c_0 main_v1 (broadcastInDim S1 ![] bcast_S_S1 : (⟨S_, .i32⟩ : BufTy).Contents (Elt F) → (⟨S1, .i32⟩ : BufTy).Contents (Elt F))
abbrev op4 : HloOp τ sig (Elt F) := StableHlo.ternary main_v0 main_v1 main_arg1 main_v2
  ((fun x i u => Host.scatter scatter_S10240x32_S1_S10000x32_01_n_0_0 (fun _ b => b) x i u) : (⟨S10240x32, .i32⟩ : BufTy).Contents (Elt F) → (⟨S1, .i32⟩ : BufTy).Contents (Elt F) → (⟨S10000x32, .i32⟩ : BufTy).Contents (Elt F) → (⟨S10240x32, .i32⟩ : BufTy).Contents (Elt F))
abbrev op5 : HloOp τ sig (Elt F) := StableHlo.reshape main_v2 main_v3 (rfl : (.i32 : EltTy) = .i32) shapeCasts_S10240x32_S327680
abbrev op6 : HloOp τ sig (Elt F) := StableHlo.unary main_v4 main_v5 ((extractStridedSlice S10000x128 ![0, 0] · slices_S10240x128_S10000x128_0_0) : (⟨S10240x128, .f32⟩ : BufTy).Contents (Elt F) → (⟨S10000x128, .f32⟩ : BufTy).Contents (Elt F))

/-- The TensorCore's arrays. -/
abbrev tcArrays : Finset (DevRef τ sig) := {a0', a1', c', v0', c0', v1', v2', v3', v4', v5'}

/-- The flat list: the row numbers over ten thousand two hundred and forty rows of zeros, row after row. -/
def flatOf (idx : S10000x32.Idx → BitVec 32) : S327680.Idx → BitVec 32 :=
  shapeCast S327680 (Host.scatter scatter_S10240x32_S1_S10000x32_01_n_0_0 (fun _ b => b)
    (broadcastInDim S10240x32 ![] bcast_S_S10240x32 (constantI S_ 32 0#32)) (broadcastInDim S1 ![] bcast_S_S1 (constantI S_ 32 0#32)) idx)
    shapeCasts_S10240x32_S327680

/-- The program's result as a function of its arguments. -/
def pooled (tab : S10000x128.Idx → Elt F .f32) (idx : S10000x32.Idx → BitVec 32) : S10000x128.Idx → Elt F .f32 :=
  extractStridedSlice S10000x128 ![0, 0] (pool tab (flatOf idx)) slices_S10240x128_S10000x128_0_0

section Run

variable (m : (ℓ : Loc nD τ sig) → Buf (Elt F) ℓ) (ρ : Dev nD → PrngReg)

abbrev argLoc (d : Dev nD) : Loc nD τ sig := (SparseCore.T d).loc main_arg1
abbrev outLoc (d : Dev nD) : Loc nD τ sig := (SparseCore.T d).loc main_v5

abbrev tab₀ (d : Dev nD) : S10000x128.Idx → Elt F .f32 := m (tabLoc d)
abbrev idx₀ (d : Dev nD) : S327680.Idx → Elt F .i32 := flatOf (m (argLoc d))
abbrev res₀ (d : Dev nD) : S10240x128.Idx → Elt F .f32 := m (resLoc d)

/-- The arrays at launch, before the call, after it, and at the end. -/
def atLaunch (d : Dev nD) : Valuation τ sig (Elt F) := fun b => m (d, b)
def atCall (d : Dev nD) : Valuation τ sig (Elt F) := StableHlo.after [op0, op1, op2, op3, op4, op5] (atLaunch m d)
def atReturn (d : Dev nD) : Valuation τ sig (Elt F) := Function.update (atCall m d) v4' (poolOf (tab₀ m) (idx₀ m) d)
def atEnd (d : Dev nD) : Valuation τ sig (Elt F) := (op6 (F := F)).result (atReturn m d)

theorem atCall_eq (d : Dev nD) :
    atCall m d = op5.result (op4.result (op3.result (op2.result (op1.result (op0.result (atLaunch m d)))))) := rfl
theorem atCall_arg0 (d : Dev nD) : atCall m d a0' = m (tabLoc d) := by unfold atCall; after_results; rfl
theorem atCall_arg1 (d : Dev nD) : atCall m d a1' = m (argLoc d) := by unfold atCall; after_results; rfl
theorem atCall_v4 (d : Dev nD) : atCall m d v4' = m (resLoc d) := by unfold atCall; after_results; rfl
theorem atCall_v3 (d : Dev nD) : atCall m d v3' = idx₀ m d := by unfold atCall; after_results; rfl

theorem atEnd_arg0 (d : Dev nD) : atEnd m d a0' = m (tabLoc d) := by
  unfold atEnd atReturn
  rw [(op6 (F := F)).result_of_not_mem _ (show a0' ∉ ({v5'} : Finset (DevRef τ sig)) by decide), Function.update_of_ne (by decide), atCall_arg0]
theorem atEnd_arg1 (d : Dev nD) : atEnd m d a1' = m (argLoc d) := by
  unfold atEnd atReturn
  rw [(op6 (F := F)).result_of_not_mem _ (show a1' ∉ ({v5'} : Finset (DevRef τ sig)) by decide), Function.update_of_ne (by decide), atCall_arg1]
theorem atEnd_v5 (d : Dev nD) : atEnd m d v5' = pooled (m (tabLoc d)) (m (argLoc d)) := by
  refine (StableHlo.unary_result _ _ _ _ _ _).trans ?_
  unfold atReturn
  rw [Function.update_self]
  rfl

/-- The arrays the call takes, and the others. -/
theorem held_call (d : Dev nD) (W : Valuation τ sig (Elt F)) :
    (held (T d) tcArrays W : sProp 𝕄) = iprop((idxLoc d ↦{fullShare} W v3') ∗ (tabLoc d ↦{fullShare} W a0') ∗ (resLoc d ↦{fullShare} W v4')
      ∗ held (T d) (((tcArrays.erase v3').erase a0').erase v4') W) := by
  unfold held
  rw [bigSep_peel (F := F) _ [v3', a0', v4'] tcArrays (by decide) (by decide)]
  rfl
theorem held_end (d : Dev nD) (W : Valuation τ sig (Elt F)) :
    (held (T d) tcArrays W : sProp 𝕄) = iprop((tabLoc d ↦{fullShare} W a0') ∗ (argLoc d ↦{fullShare} W a1') ∗ (outLoc d ↦{fullShare} W v5')
      ∗ held (T d) (((tcArrays.erase a0').erase a1').erase v5') W) := by
  unfold held
  rw [bigSep_peel (F := F) _ [a0', a1', v5'] tcArrays (by decide) (by decide)]
  rfl
theorem held_rest (d : Dev nD) : (held (T d) (((tcArrays.erase v3').erase a0').erase v4') (atReturn m d) : sProp 𝕄)
    = held (T d) (((tcArrays.erase v3').erase a0').erase v4') (atCall m d) := by
  unfold held
  refine bigSep_congr fun b hb => ?_
  unfold atReturn
  rw [Function.update_of_ne (Finset.ne_of_mem_erase hb)]

theorem unscoped_held (d : Dev nD) : (unscopedBufs d (fun b => m ((SparseCore.T d).loc b)) : sProp 𝕄) = held (T d) tcArrays (atLaunch m d) := by
  unfold unscopedBufs held
  rw [show (tcArrays : Finset (DevRef τ sig)) = (Finset.univ.filter fun b : Ref sig .tc => ¬ b.isScoped).map ⟨Proc.devRef .tc, Proc.devRef_injective _⟩ by decide,
    bigSep_map]
  rfl

theorem wp_op (d : Dev nD) {op : HloOp τ sig (Elt F)} (h : op.bufs ⊆ tcArrays) (hf : op.fresh = ∅) (V : Valuation τ sig (Elt F)) {Q : PUnit → sProp 𝕄} :
    iprop(boundary (T d) ∗ held (T d) tcArrays V)
      ⊢ iprop(((boundary (T d) ∗ held (T d) tcArrays (op.result V)) -∗ Q ⟨⟩)
        -∗ wp frame (wpE ((K (F := F)).defs (D (F := F))) 𝒱 (SparseCore.T d) none) Set.univ (hlo rfl op fun _ => .ret ⟨⟩) Q) := by
  iintro H Hk
  iapply (wp_hlo_within 𝒱 (SparseCore.T d) none Set.univ (op := op) (S := tcArrays) h (V := V) hf) $$ H
  iintro H
  rw [wp_ret]; imodintro
  iapply Hk $$ H

/-- What the TensorCore is left with. -/
abbrev FIN (d : Dev nD) : sProp 𝕄 :=
  iprop((tabLoc d ↦{fullShare} m (tabLoc d)) ∗ (argLoc d ↦{fullShare} m (argLoc d)) ∗ (outLoc d ↦{fullShare} pooled (m (tabLoc d)) (m (argLoc d))))

theorem hmain (κ : GSem nD τ sig → ℕ) (d : Dev nD) :
    iprop((K (F := F)).ctx EH (P (tab₀ m) (idx₀ m) (res₀ m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_op d (op := op0) (show ({c'} : Finset (DevRef τ sig)) ⊆ tcArrays by decide) rfl _) $$ [Hb Hheld]
  · isplitl [Hb] <;> iassumption
  iintro H
  iapply (wp_op d (op := op1) (show ({c', v0'} : Finset (DevRef τ sig)) ⊆ tcArrays by decide) rfl _) $$ H
  iintro H
  iapply (wp_op d (op := op2) (show ({c0'} : Finset (DevRef τ sig)) ⊆ tcArrays by decide) rfl _) $$ H
  iintro H
  iapply (wp_op d (op := op3) (show ({c0', v1'} : Finset (DevRef τ sig)) ⊆ tcArrays by decide) rfl _) $$ H
  iintro H
  iapply (wp_op d (op := op4) (show ({v0', v1', a1', v2'} : Finset (DevRef τ sig)) ⊆ tcArrays by decide) rfl _) $$ H
  iintro H
  iapply (wp_op d (op := op5) (show ({v2', v3'} : Finset (DevRef τ sig)) ⊆ tcArrays by decide) rfl _) $$ H
  iintro ⟨Hb, Hheld⟩
  ihave Hh := (Entails.of_eq ((congrArg (held (T d) tcArrays) (atCall_eq m d).symm).trans (held_call (F := F) d (atCall m d)))) $$ Hheld
  rw [atCall_arg0, atCall_v3, atCall_v4]
  icases Hh with ⟨Hi, Ht, Hr, Hrest⟩
  iapply ((K (F := F)).wp_run (D (F := F)) 𝒱 (EH := EH) (P := P (tab₀ m) (idx₀ m) (res₀ m)) κ d 0) $$ [Hst Hi Ht Hr Hb Hrest Hts]
  isplitr; · iexact Hctx
  isplitl [Hst]; · iexact Hst
  isplitl [Hi Ht Hr]
  · rw [st0_eq]
    isplitl [Hi]; · iexact Hi
    isplitl [Ht]; · iexact Ht
    iexact Hr
  iintro ⟨Hst, Hdn⟩
  ihave Hdn' := (Entails.of_eq (dn0_eq (tab₀ m) (idx₀ m) (res₀ m) d)) $$ Hdn
  icases Hdn' with ⟨Hi, Ht, Hr⟩
  iapply (wp_op d (op := op6) (show ({v4', v5'} : Finset (DevRef τ sig)) ⊆ tcArrays by decide) rfl (atReturn m d)) $$ [Hb Hi Ht Hr Hrest]
  · isplitl [Hb]; · iexact Hb
    rw [held_call, held_rest, show atReturn m d v3' = idx₀ m d from (Function.update_of_ne (by decide) _ _).trans (atCall_v3 m d),
      show atReturn m d a0' = m (tabLoc d) from (Function.update_of_ne (by decide) _ _).trans (atCall_arg0 m d),
      show atReturn m d v4' = poolOf (tab₀ m) (idx₀ m) d from Function.update_self _ _ _]
    isplitl [Hi]; · iexact Hi
    isplitl [Ht]; · iexact Ht
    isplitl [Hr]; · iexact Hr
    iexact Hrest
  iintro ⟨Hb, Hheld⟩
  ihave Hh := (Entails.of_eq ((show held (T d) tcArrays (op6.result (atReturn m d)) = held (T d) tcArrays (atEnd m d) from rfl).trans (held_end (F := F) d (atEnd m d)))) $$ Hheld
  rw [atEnd_arg0, atEnd_arg1, atEnd_v5]
  icases Hh with ⟨Ht, Ha, Ho, -⟩
  imodintro
  isplitl [Hst]; · iexact Hst
  isplitr [Hb Hts]
  · isplitl [Ht]; · iexact Ht
    isplitl [Ha]; · iexact Ha
    iexact Ho
  isplitl [Hb] <;> iassumption

/-- What the claims read of device `d`'s final state. -/
def fq (d : Dev nD) (s' : Phys nD τ sig (Elt F)) : Prop :=
  s'.mem.mem (tabLoc d) = m (tabLoc d) ∧ s'.mem.mem (argLoc d) = m (argLoc d) ∧ s'.mem.mem (outLoc d) = pooled (m (tabLoc d)) (m (argLoc d))

set_option maxRecDepth 16384 in
theorem hfin (d : Dev nD) (s' : Phys nD τ sig (Elt F)) : iprop(FIN m d ∗ SI s') ⊢ (⌜fq m d s'⌝ : sProp 𝕄) := by
  iintro ⟨⟨Ht, Ha, Ho⟩, HSI⟩
  ihave H := (persistent_entails_right (SI_pointsTo_agree (st := s') (ℓ := tabLoc d) (I := Finset.univ) (q := fullShare) (f := m (tabLoc d)))) $$ [HSI Ht]
  · isplitl [HSI] <;> iassumption
  icases H with ⟨%h1, HSI, -⟩
  ihave H := (persistent_entails_right (SI_pointsTo_agree (st := s') (ℓ := argLoc d) (I := Finset.univ) (q := fullShare) (f := m (argLoc d)))) $$ [HSI Ha]
  · isplitl [HSI] <;> iassumption
  icases H with ⟨%h2, HSI, -⟩
  ihave H := (SI_pointsTo_agree (st := s') (ℓ := outLoc d) (I := Finset.univ) (q := fullShare) (f := pooled (m (tabLoc d)) (m (argLoc d)))) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-- What the program leaves. -/
def QC : PUnit × MemSt nD τ sig (Elt F) → Prop := fun r =>
  (∀ d : Dev nD, r.2.mem (tabLoc d) = m (tabLoc d) ∧ r.2.mem (argLoc d) = m (argLoc d) ∧ r.2.mem (outLoc d) = pooled (m (tabLoc d)) (m (argLoc d)))
    ∧ r.2.sem = fun _ => 0

/-- The program's run, given that the flat list names rows of the table. -/
theorem run_main [∀ e, Nonempty (Elt F e)] (hidx : ∀ (d : Dev nD) j, (idx₀ m d j).toNat < 10000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tab₀ m) (idx₀ m) (res₀ m)) (A := ∅) facts v₀
    (fun q hq => match q with | 0 => nomatch hq)
    (fun q _ => match q with | 0 => tileObl (tab₀ m) (idx₀ m) (res₀ m) hidx)
    (fun q _ => match q with | 0 => SparseCore.Cfg.VecSplit.of_plain (vecSplit (tab₀ m) (idx₀ m) (res₀ m)))
    m ρ main (fun _ => iprop(emp)) (FIN m) (u₀ (F := F)) (sep_elim_left.trans (hu₀ (tab₀ m) (idx₀ m) (res₀ m))) (hmain m ρ) (fq m) (hfin m) (QC m) (fun _ h hz => ⟨h, hz⟩)

end Run

end Cert.Proof.Pool

end
-- ==== Proof.Value.lean ====
/-
  The program's result read element by element, and its precondition read as a bound on the row numbers. The padded list
  holds the row numbers in order and zeros after them (`flatOf_at`, `flatOf_lt`), so the result holds in row `r` the maximum
  over the thirty-two table rows which row `r` of the row numbers names (`pooled_apply`).
-/
module

public import proofs.«01_k».proof.Proof.Launch
public import proofs.«01_k».proof.Proof.Gen.Pre_in_range
public import Idealize.ShloMosaic.Lib.Routing.OpsSet
public import Idealize.ShloMosaic.Lib.Routing.OpsOrder
public import Idealize.ShloMosaic.Lib.Pipeline.Value
public import Idealize.ShloMosaic.Lib.ReduceAll

@[expose] public section

noncomputable section

namespace Cert.Proof.Pool

open Cert.KernelIdeal Cert.KernelIdeal.Gen
open Idealize.ShloMosaic
open Idealize.ShloMosaic.ValueIdx
open Idealize.ShloMosaic.Routing (scatter_set_hit scatter_forall resultIdx?_ix2 cast21 shape1 shape2)

variable {F : FTy → Type} [FloatOps F]

/-! ## The padded list -/

/-- The row numbers over rows of zeros. -/
abbrev padded (idx : S10000x32.Idx → BitVec 32) : S10240x32.Idx → BitVec 32 :=
  Host.scatter scatter_S10240x32_S1_S10000x32_01_n_0_0 (fun _ b => b)
    (broadcastInDim S10240x32 ![] bcast_S_S10240x32 (constantI S_ 32 0#32)) (broadcastInDim S1 ![] bcast_S_S1 (constantI S_ 32 0#32)) idx

/-- A block written into a matrix of as many columns from row zero on: its entry at `j` lands at row `j 0`, column `j 1`. -/
theorem lands_rows {R C A : ℕ} (d : ScatterDims (shape2 R C) (shape1 1) (shape2 A C)) (huw : d.updateWindowDims = [0, 1])
    (hiw : d.insertedWindowDims = []) (hsd : d.scatterDimsToOperandDims = [0]) (idx : IVec (shape1 1) 32) (h0 : ∀ i, idx i = 0#32)
    (j : (shape2 A C).Idx) (r : Fin R) (k : Fin C) : d.resultIdx? j idx = some (ix2 r k) ↔ (j 0).val = r.val ∧ (j 1).val = k.val := by
  have hkept : d.sKept = [0, 1] := by
    show (shape2 R C).kept d.insertedWindowDims = _
    rw [hiw]; rfl
  have hs (a : Fin 2) : d.start j idx a = 0 := by
    unfold ScatterDims.start
    split
    · rw [h0]; rfl
    · rfl
  have hj (a b : Fin 2) (h : a = b) : (j a).val = (j b).val := by rw [h]
  have hw (a : Fin 2) : d.window j a = (j a).val := by
    unfold ScatterDims.window
    rw [dif_pos (by rw [hkept]; exact (by decide : ∀ a : Fin 2, a ∈ ([0, 1] : List (Fin 2))) a)]
    refine hj _ _ ?_
    simp only [huw, hkept]
    exact match a with | 0 => rfl | 1 => rfl
  rw [resultIdx?_ix2, hs, hs, hw, hw]
  omega

theorem padded_at (idx : S10000x32.Idx → BitVec 32) (r : Fin 10000) (k : Fin 32) (r' : Fin 10240) (hr : r'.val = r.val) :
    padded idx (ix2 r' k) = idx (ix2 r k) :=
  scatter_set_hit _ _ _ _ _ _
    (fun j hj => by
      have h := (lands_rows scatter_S10240x32_S1_S10000x32_01_n_0_0 rfl rfl rfl _ (fun _ => rfl) j r' k).1 hj
      exact congrArg idx ((eq_ix2 j).trans (congrArg₂ ix2 (Fin.ext (h.1.trans hr)) (Fin.ext h.2))))
    (ix2 r k) ((lands_rows scatter_S10240x32_S1_S10000x32_01_n_0_0 rfl rfl rfl _ (fun _ => rfl) (ix2 r k) r' k).2 ⟨hr.symm, rfl⟩)

/-- The list at `32 * r + k` is the row number at `(r, k)`. -/
theorem flatOf_at (idx : S10000x32.Idx → BitVec 32) (r k : ℕ) (hr : r < 10000) (hk : k < 32) :
    flatOf idx (ix1 (Fin.ofNat 327680 (32 * r + k))) = idx (at2 10000 32 r k) := by
  refine (cast21 (a := 10240) (b := 32) (n := 327680) (padded idx) shapeCasts_S10240x32_S327680 (Fin.ofNat 10240 r) (Fin.ofNat 32 k) _ ?_).trans
    (padded_at idx (Fin.ofNat 10000 r) (Fin.ofNat 32 k) _ ?_)
  · show (32 * r + k) % 327680 = r % 10240 * 32 + k % 32
    omega
  · show r % 10240 = r % 10000
    omega

/-- Every word of the list is a row number or zero. -/
theorem flatOf_lt (idx : S10000x32.Idx → BitVec 32) (h : ∀ i, (idx i).toNat < 10000) (j : S327680.Idx) : (flatOf idx j).toNat < 10000 := by
  unfold flatOf shapeCast
  exact scatter_forall _ _ (fun b : BitVec 32 => b.toNat < 10000) (fun _ _ _ hb => hb) _ _ idx (fun _ => (by decide : (0#32).toNat < 10000)) h _

/-! ## The result -/

/-- The result at row `r`, column `c`. -/
theorem pooled_apply (tab : S10000x128.Idx → Elt F .f32) (idx : S10000x32.Idx → BitVec 32) (x : S10000x128.Idx) :
    pooled tab idx x = maxTo (fun k => tab (at2 10000 128 (idx (at2 10000 32 (x 0).val k)).toNat (x 1).val)) 31 := by
  have h0 : (x 0).val < 10000 := (x 0).isLt
  have h1 : (x 1).val < 128 := (x 1).isLt
  refine (extractStridedSlice_apply ![0, 0] (pool tab (flatOf idx)) slices_S10240x128_S10000x128_0_0 x (at2 10240 128 (x 0).val (x 1).val)
    (fun a => match a with
      | ⟨0, _⟩ => by show (x 0).val % 10240 = 0 + (x 0).val; omega
      | ⟨1, _⟩ => by show (x 1).val % 128 = 0 + (x 1).val; omega)).trans ?_
  show poolAt tab (fun j => flatOf idx (ix1 (Fin.ofNat 327680 j))) ((x 0).val % 10240) ((x 1).val % 128) = _
  rw [Nat.mod_eq_of_lt h1, Nat.mod_eq_of_lt (show (x 0).val < 10240 by omega)]
  refine maxTo_congr fun k hk => ?_
  show tab (at2 10000 128 (flatOf idx (ix1 (Fin.ofNat 327680 (32 * (x 0).val + k)))).toNat (x 1).val) = _
  rw [flatOf_at idx _ _ h0 (by omega)]

/-! ## The precondition -/

/-- The precondition bounds every row number. -/
theorem rows_lt (tab : S10000x128.Idx → F .f32) (idx : S10000x32.Idx → BitVec 32)
    (h : @Cert.Pre_in_range.fn Cert.Pre_in_range.Gen.facts F _ tab idx = fun _ => 1#1) (i : S10000x32.Idx) : (idx i).toNat < 10000 := by
  have e := Host.reduce_andi_all (t := S_) _ _ _ _ (fun a => a.elim0) (congrFun h fun a => a.elim0) i
  obtain ⟨e0, e1⟩ := IntOp.andi_eq_one.1 e
  change IntOp.cmpi .sge (idx i) 0#32 = 1#1 at e0
  change IntOp.cmpi .slt (idx i) 10000#32 = 1#1 at e1
  simp only [IntOp.cmpi, StableHlo.Predicate.ofBool_eq_one_iff, BitVec.sle_eq_decide, BitVec.slt_eq_decide, decide_eq_true_eq,
    BitVec.toInt_eq_toNat_cond, BitVec.toNat_ofNat, Nat.reducePow, Nat.reduceMod] at e0 e1
  omega

end Cert.Proof.Pool

end
-- ==== Proof.Ref.lean ====
/-
  The reference's result read element by element. Where every row number is below ten thousand, the wrap of negative
  indices changes nothing, the mask of indices out of range is all ones, the gathered rows are rows of the table and not the row of zeros
  put after it, and the reduction is the maximum over the thirty-two rows (`ref_apply`).
-/
module

public import proofs.«01_k».proof.Proof.Value
public import proofs.«01_k».proof.Proof.Gen.ReferenceIdeal.Run
public import proofs.«01_k».proof.Proof.Gen.ReferenceIdeal.Read

@[expose] public section

noncomputable section

namespace Cert.Proof.Pool

open Cert.ReferenceIdeal Cert.ReferenceIdeal.Gen Cert.ReferenceIdeal.Read
open Idealize.ShloMosaic
open Idealize.ShloMosaic.ValueIdx
open Idealize.ShloMosaic.Routing (shape2 shape3 wrap_of_lt one_not_mem)

variable {F : FTy → Type} [FloatOps F]

/-! ## Rows of a table, gathered by a matrix of row numbers -/

/-- Where the index at `(a, b, 0)` is the row number `r`, the gathered rows hold at `(a, b, y)` the table's entry `(r, y)`. -/
theorem gather_rows {α : Type} {R A B C : ℕ} (d : GatherDims (shape2 R C) (shape3 A B 1) (shape3 A B C)) (hoff : d.offsetDims = [2])
    (hcoll : d.collapsedSliceDims = [0]) (hob : d.operandBatchingDims = []) (hsim : d.startIndexMap = [0]) (hivd : d.indexVectorDim = 2)
    (x : (shape2 R C).Idx → α) (idx : IVec (shape3 A B 1) 32) (j : (shape3 A B C).Idx) (r : Fin R)
    (hr : ∀ i : (shape3 A B 1).Idx, (i 0).val = (j 0).val → (i 1).val = (j 1).val → (idx i).toInt = (r.val : ℤ)) :
    Host.gather d x idx j = x (ix2 r (j 2)) := by
  have hbatch : d.batchDims = [0, 1] := by
    show (shape3 A B C).kept d.offsetDims = _
    rw [hoff]; rfl
  have hsi : d.siKept = [0, 1] := by
    unfold GatherDims.siKept
    rw [hivd]; rfl
  have hsk : d.sKept = [1] := by
    unfold GatherDims.sKept
    rw [hcoll, hob]; rfl
  have hj (a b : Fin 3) (h : a = b) : (j a).val = (j b).val := by rw [h]
  have hbN : ∀ a', a' ∉ d.operandBatchingDims := fun a' => by rw [hob]; exact List.not_mem_nil
  unfold Host.gather
  refine congrArg x (funext fun a => Fin.ext ?_)
  match a with
  | ⟨0, _⟩ =>
    have hk : (0 : Fin 2) ∉ d.sKept := fun h => ((d.mem_sKept 0).1 h).1 (by rw [hcoll]; exact List.mem_singleton.2 rfl)
    have hm : (0 : Fin 2) ∈ d.startIndexMap := by rw [hsim]; exact List.mem_singleton.2 rfl
    have hsl : d.sliceSizes 0 = 1 := d.slice_collapsed 0 (by rw [hcoll]; exact List.mem_singleton.2 rfl)
    have hc (b : Fin 3) (hb : b ∈ d.siKept) : (d.siCoord j b hb).val = (j b).val := by
      unfold GatherDims.siCoord
      rw [Fin.val_cast]
      refine hj _ _ ?_
      have hb' : b = 0 ∨ b = 1 := by rw [hsi] at hb; simpa using hb
      simp only [hbatch, hsi]
      exact match b, hb' with | _, .inl rfl => rfl | _, .inr rfl => rfl
    show d.start j idx 0 + d.batchCoord j 0 + d.offCoord j 0 = r.val
    rw [d.batchCoord_eq_zero _ _ (hbN 0), d.offCoord_eq_zero _ _ hk]
    simp only [Nat.add_zero]
    unfold GatherDims.start
    rw [dif_pos hm, hr _ ?_ ?_, hsl]
    · show min ((r.val : ℤ)).toNat (R - 1) = r.val
      have := r.isLt
      omega
    · unfold GatherDims.siIdx
      rw [dif_neg (by rw [hivd]; exact (by decide : ¬ (0 : ℕ) = 2))]
      exact hc _ _
    · unfold GatherDims.siIdx
      rw [dif_neg (by rw [hivd]; exact (by decide : ¬ (1 : ℕ) = 2))]
      exact hc _ _
  | ⟨1, _⟩ =>
    have hk : (1 : Fin 2) ∈ d.sKept := (d.mem_sKept 1).2 ⟨one_not_mem _ hcoll, hbN 1⟩
    have hm : (1 : Fin 2) ∉ d.startIndexMap := one_not_mem _ hsim
    show d.start j idx 1 + d.batchCoord j 1 + d.offCoord j 1 = (j 2).val
    rw [d.batchCoord_eq_zero _ _ (hbN 1), Nat.add_zero]
    unfold GatherDims.start GatherDims.offCoord
    rw [dif_neg hm, dif_pos hk, Nat.zero_add]
    refine hj _ _ ?_
    simp only [hoff, hsk]
    rfl

/-! ## The reference, one operation at a time -/

section Stages

variable (tab : S10000x128.Idx → Elt F .f32) (idx : S10000x32.Idx → BitVec 32) (h : ∀ i, (idx i).toNat < 10000)
include h

/-- The wrapped indices are the indices. -/
theorem v5_at (i : S10000x32x1.Idx) : val_main_call0_v5 (F := F) idx i = idx (idx_main_call0_v5 i) := by
  rw [val_main_call0_v5_apply, val_main_call0_v4_apply, val_main_call0_v1_apply, val_main_call0_v0_apply, val_main_call0_c_apply]
  have := h (idx_main_call0_v5 i)
  exact wrap_of_lt _ _ (by show _ < 2147483648; omega)

/-- Every index is in range. -/
theorem v12_at (i : S10000x32.Idx) : val_main_call0_v12 (F := F) idx i = 1#1 := by
  unfold val_main_call0_v12
  refine Host.reduce_andi_one _ _ _ _ _ rfl fun i => ?_
  have hb := h (idx_main_call0_v5 i)
  rw [val_main_call0_v11_apply, val_main_call0_v7_apply, val_main_call0_v10_apply, v5_at idx h, val_main_call0_v6_apply, val_main_call0_c_2_apply,
    val_main_call0_v9_apply, val_main_call0_v8_apply, val_main_call0_c_1_apply]
  refine IntOp.andi_eq_one.2 ⟨(StableHlo.Predicate.sge_iff_toNat ?_ ?_).2 ?_, (StableHlo.Predicate.sle_iff_toNat ?_ ?_).2 ?_⟩
  · omega
  · decide
  · exact Nat.zero_le _
  · omega
  · decide
  · exact (Nat.le_of_lt hb).trans_eq rfl

/-- The gathered rows are the table's. -/
theorem v13_at (j : S10000x32x128.Idx) :
    val_main_call0_v13 (F := F) tab idx j = tab (at2 10000 128 (idx (at2 10000 32 (j 0).val (j 1).val)).toNat (j 2).val) := by
  have h0 : (j 0).val < 10000 := (j 0).isLt
  have h1 : (j 1).val < 32 := (j 1).isLt
  have h2 : (j 2).val < 128 := (j 2).isLt
  set w := idx (at2 10000 32 (j 0).val (j 1).val) with hw
  have hlt : w.toNat < 10000 := h _
  unfold val_main_call0_v13
  refine (gather_rows (R := 10001) (A := 10000) (B := 32) (C := 128) gather_S10001x128_S10000x32x1_S10000x32x128_2_0_n_n_0_2_1128 rfl rfl rfl rfl rfl
    (val_main_v2 (F := F) tab) (val_main_call0_v5 (F := F) idx) j ⟨w.toNat, by omega⟩ fun i e0 e1 => ?_).trans ?_
  · rw [v5_at idx h, show idx (idx_main_call0_v5 i) = w from congrArg idx ((eq_ix2 _).trans (congrArg₂ ix2 (Fin.ext ?_) (Fin.ext ?_)))]
    · exact StableHlo.Predicate.toInt_eq_toNat_of_lt (by omega)
    · show (i 0).val = (j 0).val % 10000
      omega
    · show (i 1).val = (j 1).val % 32
      omega
  · unfold val_main_v2
    refine concatenate_pair_apply_left 0 tab _ concatenates_S10000x128_S1x128_S10001x128_d0 _ rfl _ fun b => ?_
    match b with
    | ⟨0, _⟩ => show w.toNat % 10000 = w.toNat; omega
    | ⟨1, _⟩ => show (j 2).val % 128 = (j 2).val; omega

/-- So are the rows that are reduced. -/
theorem v3_at (j : S10000x32x128.Idx) :
    val_main_v3 (F := F) tab idx j = tab (at2 10000 128 (idx (at2 10000 32 (j 0).val (j 1).val)).toNat (j 2).val) := by
  rw [val_main_v3_apply, val_main_call0_v14_apply, v12_at idx h, v13_at tab idx h]
  rfl

end Stages

/-! ## The reduction -/

instance : Std.Commutative (FloatOps.maximumf : Ideal .f32 → Ideal .f32 → Ideal .f32) := ⟨fun a b => max_comm a b⟩
instance : Std.Associative (FloatOps.maximumf : Ideal .f32 → Ideal .f32 → Ideal .f32) := ⟨fun a b c => max_assoc a b c⟩

/-- A maximum taken in any order from minus infinity is the running maximum. -/
theorem fold_maxTo (f : ℕ → Ideal .f32) : ∀ n : ℕ,
    (Finset.univ : Finset (Fin (n + 1))).fold (FloatOps.maximumf (F := Ideal) (φ := .f32)) (FloatOps.ofBits .f32 0xFF800000#32) (fun k => f k.val) = maxTo f n
  | 0 => by
    rw [show (Finset.univ : Finset (Fin (0 + 1))) = {0} from rfl, Finset.fold_singleton]
    show max (f 0) (Ideal.ofBits .f32 0xFF800000#32) = f 0
    simp [Ideal.ofBits, Ideal.ieee]
  | n + 1 => by
    rw [Fin.univ_castSuccEmb, Finset.fold_cons, Finset.fold_map]
    refine (max_comm _ _).trans ?_
    show max (Finset.fold _ _ (fun k : Fin (n + 1) => f k.val) Finset.univ) (f (n + 1)) = _
    rw [fold_maxTo f n]
    rfl

/-- The reference's result at row `x 0`, column `x 1`. -/
theorem ref_apply (tab : S10000x128.Idx → Elt Ideal .f32) (idx : S10000x32.Idx → BitVec 32) (h : ∀ i, (idx i).toNat < 10000) (x : S10000x128.Idx) :
    val_main_v4 (F := Ideal) tab idx x = maxTo (F := Ideal) (fun k => tab (at2 10000 128 (idx (at2 10000 32 (x 0).val k)).toNat (x 1).val)) 31 := by
  have hred : S10000x32x128.Reduces [1] S10000x128 := by decide
  unfold val_main_v4
  rw [Host.reduce_eq_fold_single _ _ _ reducesTo_S10000x32x128_S10000x128_d1 hred h_S_ x]
  refine (Finset.fold_congr fun k _ => ?_).trans (fold_maxTo _ 31)
  rw [Function.comp_apply, v3_at tab idx h]
  rfl

/-- The kernel's result is the reference's. -/
theorem pooled_eq (tab : S10000x128.Idx → Elt Ideal .f32) (idx : S10000x32.Idx → BitVec 32) (h : ∀ i, (idx i).toNat < 10000) :
    pooled (F := Ideal) tab idx = val_main_v4 (F := Ideal) tab idx :=
  funext fun x => (pooled_apply tab idx x).trans (ref_apply tab idx h x).symm

end Cert.Proof.Pool

end
-- ==== Proof.lean ====
/-
  The certificate's claim from its parts: the kernel's run (`Pool.run_main`) read at its arguments and its result, the reference's generated run,
  and the equality of the two results (`Pool.pooled_eq`), each under the precondition read as a bound on the row numbers (`Pool.rows_lt`).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_in_range
public import proofs.«01_k».proof.Proof.Ref
public import Idealize.ShloMosaic.Adequacy
public import Idealize.ShloMosaic.Init

@[expose] public section

noncomputable section

namespace Cert.Proof

open Idealize.ShloMosaic Idealize.SL.Sem

/-- `Cert.quiescent_Kernel`: the two programs are one text, so the run at any float values is its run too. -/
theorem frame_kernel : Cert.quiescent_Kernel := fun m g hpre =>
  (θ_run Cert.KernelIdeal.defs _ _).mono (fun _ h => ⟨fun c => ⟨(h.1 c).1, (h.1 c).2.1⟩, h.2⟩)
    (Pool.run_main (F := Bits) m g fun d => Pool.flatOf_lt _ (Pool.rows_lt _ _ (hpre d)))

/-- `Cert.quiescent_KernelIdeal`. -/
theorem frame_kernelIdeal : Cert.quiescent_KernelIdeal := fun m g hpre =>
  (θ_run Cert.KernelIdeal.defs _ _).mono (fun _ h => ⟨fun c => ⟨(h.1 c).1, (h.1 c).2.1⟩, h.2⟩)
    (Pool.run_main (F := Ideal) m g fun d => Pool.flatOf_lt _ (Pool.rows_lt _ _ (hpre d)))

/-- `Cert.quiescent_ReferenceIdeal`: a line of host operations, which declares no semaphore. -/
theorem frame_reference : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- `Cert.algebraic_KernelIdeal_ReferenceIdeal`: both end with `Pool.pooled` of the kernel's arguments. -/
theorem algebraic : Cert.algebraic_KernelIdeal_ReferenceIdeal := fun m g m' g' hpre hag =>
  ⟨fun c => Pool.pooled (F := Ideal) (m (Pool.tabLoc c)) (m (Pool.argLoc c)),
    (θ_run Cert.KernelIdeal.defs _ _).mono (fun _ h c => ⟨(h.1 c).2.2, (h.1 c).1, (h.1 c).2.1⟩)
      (Pool.run_main (F := Ideal) m g fun d => Pool.flatOf_lt _ (Pool.rows_lt _ _ (hpre d))),
    (θ_run Cert.ReferenceIdeal.defs _ _).mono
      (fun _ h c => ⟨((h c).1.trans (Cert.ReferenceIdeal.Read.val_main_v4_eq _ _)).trans
        ((congrArg₂ (Cert.ReferenceIdeal.Read.val_main_v4 (F := Ideal)) (hag c).1 (hag c).2).trans
          (Pool.pooled_eq _ _ (Pool.rows_lt _ _ (hpre c))).symm), (h c).2⟩)
      (Cert.ReferenceIdeal.Value.run (F := Ideal) m' g')⟩

theorem claim : Cert.Claim :=
  ⟨Cert.Kernel.Gen.facts, Cert.KernelIdeal.Gen.facts, Cert.ReferenceIdeal.Gen.facts, Cert.Pre_in_range.Gen.facts,
    frame_kernel, frame_kernelIdeal, frame_reference, trivial, algebraic⟩

end Cert.Proof

end
